-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x16384 : Shape := ⟨3, ![2, 4096, 16384]⟩
abbrev S2x4096 : Shape := ⟨2, ![2, 4096]⟩
abbrev S64x256x256 : Shape := ⟨3, ![64, 256, 256]⟩
abbrev S64 : Shape := ⟨1, ![64]⟩
abbrev S256x64x64 : Shape := ⟨3, ![256, 64, 64]⟩
abbrev S256 : Shape := ⟨1, ![256]⟩
abbrev S8192x64x64x4 : Shape := ⟨4, ![8192, 64, 64, 4]⟩
abbrev S64x8192x4x64 : Shape := ⟨4, ![64, 8192, 4, 64]⟩
abbrev S64x8192x256 : Shape := ⟨3, ![64, 8192, 256]⟩
abbrev S64x4x64x64 : Shape := ⟨4, ![64, 4, 64, 64]⟩
abbrev S4x4 : Shape := ⟨2, ![4, 4]⟩
abbrev S_ : Shape := ⟨0, ![]⟩
abbrev S1x4x1x4x1 : Shape := ⟨5, ![1, 4, 1, 4, 1]⟩
abbrev S64x4x64x1x64 : Shape := ⟨5, ![64, 4, 64, 1, 64]⟩
abbrev S64x4x64x4x64 : Shape := ⟨5, ![64, 4, 64, 4, 64]⟩
abbrev S64x1x4 : Shape := ⟨3, ![64, 1, 4]⟩
abbrev S64x1x4x64 : Shape := ⟨4, ![64, 1, 4, 64]⟩
abbrev S64x1x256 : Shape := ⟨3, ![64, 1, 256]⟩
abbrev S8192x1 : Shape := ⟨2, ![8192, 1]⟩
abbrev S256x1 : Shape := ⟨2, ![256, 1]⟩
abbrev S256x256 : Shape := ⟨2, ![256, 256]⟩
abbrev S1x256x256 : Shape := ⟨3, ![1, 256, 256]⟩
abbrev S1x1x256 : Shape := ⟨3, ![1, 1, 256]⟩
abbrev S1x256 : Shape := ⟨2, ![1, 256]⟩
abbrev S8192x64x4x64 : Shape := ⟨4, ![8192, 64, 4, 64]⟩
abbrev S2x4096x256x64 : Shape := ⟨4, ![2, 4096, 256, 64]⟩
abbrev S64x8192x64x4 : Shape := ⟨4, ![64, 8192, 64, 4]⟩
abbrev S8192x16384 : Shape := ⟨2, ![8192, 16384]⟩
abbrev S1x1024x256 : Shape := ⟨3, ![1, 1024, 256]⟩
abbrev S1024x1 : Shape := ⟨2, ![1024, 1]⟩
abbrev S1024x256 : Shape := ⟨2, ![1024, 256]⟩
abbrev S1 : Shape := ⟨1, ![1]⟩

abbrev nBuf : Space → Nat
  | .hbm => 40
  | .vmem => 18
  | .smem => 1
  | _ => 0

abbrev bufTy : (tb : Table) → Fin (tcTables nBuf tb) → BufTy
  | .hbm, ⟨0, _⟩ => ⟨S2x4096x16384, .fp8e4m3⟩
  | .hbm, ⟨1, _⟩ => ⟨S2x4096, .f32⟩
  | .hbm, ⟨2, _⟩ => ⟨S64x256x256, .fp8e4m3⟩
  | .hbm, ⟨3, _⟩ => ⟨S64, .f32⟩
  | .hbm, ⟨4, _⟩ => ⟨S256x64x64, .fp8e4m3⟩
  | .hbm, ⟨5, _⟩ => ⟨S256, .f32⟩
  | .hbm, ⟨6, _⟩ => ⟨S8192x64x64x4, .fp8e4m3⟩
  | .hbm, ⟨7, _⟩ => ⟨S64x8192x4x64, .fp8e4m3⟩
  | .hbm, ⟨8, _⟩ => ⟨S64x8192x256, .fp8e4m3⟩
  | .hbm, ⟨9, _⟩ => ⟨S64x4x64x64, .fp8e4m3⟩
  | .hbm, ⟨10, _⟩ => ⟨S64x4x64x64, .fp8e4m3⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S1x4x1x4x1, .i1⟩
  | .hbm, ⟨18, _⟩ => ⟨S64x4x64x1x64, .fp8e4m3⟩
  | .hbm, ⟨19, _⟩ => ⟨S_, .i8⟩
  | .hbm, ⟨20, _⟩ => ⟨S_, .fp8e4m3⟩
  | .hbm, ⟨21, _⟩ => ⟨S64x4x64x4x64, .i1⟩
  | .hbm, ⟨22, _⟩ => ⟨S64x4x64x4x64, .fp8e4m3⟩
  | .hbm, ⟨23, _⟩ => ⟨S64x4x64x4x64, .fp8e4m3⟩
  | .hbm, ⟨24, _⟩ => ⟨S64x4x64x4x64, .fp8e4m3⟩
  | .hbm, ⟨25, _⟩ => ⟨S64x256x256, .fp8e4m3⟩
  | .hbm, ⟨26, _⟩ => ⟨S64x1x4, .f32⟩
  | .hbm, ⟨27, _⟩ => ⟨S64x1x4x64, .f32⟩
  | .hbm, ⟨28, _⟩ => ⟨S64x1x256, .f32⟩
  | .hbm, ⟨29, _⟩ => ⟨S8192x1, .f32⟩
  | .hbm, ⟨30, _⟩ => ⟨S64x8192x256, .fp8e4m3⟩
  | .hbm, ⟨31, _⟩ => ⟨S8192x1, .f32⟩
  | .hbm, ⟨32, _⟩ => ⟨S64x8192x4x64, .fp8e4m3⟩
  | .hbm, ⟨33, _⟩ => ⟨S8192x64x4x64, .fp8e4m3⟩
  | .hbm, ⟨34, _⟩ => ⟨S2x4096x256x64, .fp8e4m3⟩
  | .hbm, ⟨35, _⟩ => ⟨S64x8192x64x4, .fp8e4m3⟩
  | .hbm, ⟨36, _⟩ => ⟨S64x8192x256, .fp8e4m3⟩
  | .hbm, ⟨37, _⟩ => ⟨S8192x16384, .bf16⟩
  | .hbm, ⟨38, _⟩ => ⟨S2x4096x16384, .bf16⟩
  | .hbm, ⟨39, _⟩ => ⟨S2x4096, .f32⟩
  | .local _ .vmem, ⟨0, _⟩ => ⟨S64x256x256, .fp8e4m3⟩
  | .local _ .vmem, ⟨1, _⟩ => ⟨S64x256x256, .fp8e4m3⟩
  | .local _ .vmem, ⟨2, _⟩ => ⟨S256x1, .f32⟩
  | .local _ .vmem, ⟨3, _⟩ => ⟨S256x1, .f32⟩
  | .local _ .vmem, ⟨4, _⟩ => ⟨S64x256x256, .fp8e4m3⟩
  | .local _ .vmem, ⟨5, _⟩ => ⟨S64x1x256, .f32⟩
  | .local _ .vmem, ⟨6, _⟩ => ⟨S64x256x256, .fp8e4m3⟩
  | .local _ .vmem, ⟨7, _⟩ => ⟨S64x256x256, .fp8e4m3⟩
  | .local _ .vmem, ⟨8, _⟩ => ⟨S256x1, .f32⟩
  | .local _ .vmem, ⟨9, _⟩ => ⟨S256x1, .f32⟩
  | .local _ .vmem, ⟨10, _⟩ => ⟨S64x256x256, .f32⟩
  | .local _ .vmem, ⟨11, _⟩ => ⟨S1x1024x256, .fp8e4m3⟩
  | .local _ .vmem, ⟨12, _⟩ => ⟨S1x1024x256, .fp8e4m3⟩
  | .local _ .vmem, ⟨13, _⟩ => ⟨S1024x1, .f32⟩
  | .local _ .vmem, ⟨14, _⟩ => ⟨S1024x1, .f32⟩
  | .local _ .vmem, ⟨15, _⟩ => ⟨S64x256x256, .fp8e4m3⟩
  | .local _ .vmem, ⟨16, _⟩ => ⟨S1024x256, .bf16⟩
  | .local _ .vmem, ⟨17, _⟩ => ⟨S1024x256, .bf16⟩
  | .local _ .smem, ⟨0, _⟩ => ⟨S64, .f32⟩
  | _, _ => ⟨S2x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v88 : Index := Scalar.indexCast arg8
  let c0_26 : Index := 0#32
  let c0_27 : Index := 0#32
  ![v88.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v97 : Index := Scalar.indexCast arg8
  let c0_31 : Index := 0#32
  let c0_32 : Index := 0#32
  ![v97.toNat, 0, 0]
@[reducible] def k0_t2_loop : Scf.Loop 32 :=
  let c0_i32_22 : BitVec 32 := 0#32
  let c64_i32_23 : BitVec 32 := 64#32
  let v87 : BitVec 32 := Scalar.addi c0_i32_22 c64_i32_23
  let c1_i32_24 : BitVec 32 := 1#32
  ⟨c0_i32_22, v87, c1_i32_24⟩
def k0_off3 (k0_t2 : Fin k0_t2_loop.trips) : Fin 3 → Nat :=
  let c0_i32_22 : BitVec 32 := 0#32
  let c1_i32_24 : BitVec 32 := 1#32
  let arg8 : BitVec 32 := Scf.iv c0_i32_22 c1_i32_24 k0_t2
  let v88 : Index := Scalar.indexCast arg8
  let c0_26 : Index := 0#32
  let c0_27 : Index := 0#32
  ![v88.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 64], ![false, false]⟩

def k1_off1 (i : grid1.Coords) : Fin 3 → Nat :=
  let arg1 : BitVec 32 := BitVec.ofNat 32 (i 1).val
  let v2 : Index := Scalar.indexCast arg1
  let c0_2 : Index := 0#32
  let c0_3 : Index := 0#32
  ![v2.toNat, 0, 0]
def k1_off2 (i : grid1.Coords) : Fin 1 → Nat :=
  let arg1 : BitVec 32 := BitVec.ofNat 32 (i 1).val
  let v10 : Index := Scalar.indexCast arg1
  ![v10.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x1024x256 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S64x256x256 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .smem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S2x4096x16384 : Shape := ⟨3, ![2, 4096, 16384]⟩
abbrev S2x4096 : Shape := ⟨2, ![2, 4096]⟩
abbrev S64x256x256 : Shape := ⟨3, ![64, 256, 256]⟩
abbrev S64 : Shape := ⟨1, ![64]⟩
abbrev S256x64x64 : Shape := ⟨3, ![256, 64, 64]⟩
abbrev S256 : Shape := ⟨1, ![256]⟩
abbrev S2x4096x64x256 : Shape := ⟨4, ![2, 4096, 64, 256]⟩
abbrev S256x2x4096x64 : Shape := ⟨4, ![256, 2, 4096, 64]⟩
abbrev S256x8192x64 : Shape := ⟨3, ![256, 8192, 64]⟩
abbrev S1x8192x1 : Shape := ⟨3, ![1, 8192, 1]⟩
abbrev S64x1x1 : Shape := ⟨3, ![64, 1, 1]⟩
abbrev S256x1x1 : Shape := ⟨3, ![256, 1, 1]⟩
abbrev S64x8192x256 : Shape := ⟨3, ![64, 8192, 256]⟩
abbrev S8192 : Shape := ⟨1, ![8192]⟩
abbrev S1x8192x247 : Shape := ⟨3, ![1, 8192, 247]⟩
abbrev S1x8192 : Shape := ⟨2, ![1, 8192]⟩
abbrev S2x4096x256x64 : Shape := ⟨4, ![2, 4096, 256, 64]⟩
abbrev S64x2x4096x256 : Shape := ⟨4, ![64, 2, 4096, 256]⟩

abbrev nBuf : Space → Nat
  | .hbm => 21
  | .vmem => 9
  | .smem => 0
  | _ => 0

abbrev bufTy : (tb : Table) → Fin (tcTables nBuf tb) → BufTy
  | .hbm, ⟨0, _⟩ => ⟨S2x4096x16384, .fp8e4m3⟩
  | .hbm, ⟨1, _⟩ => ⟨S2x4096, .f32⟩
  | .hbm, ⟨2, _⟩ => ⟨S64x256x256, .fp8e4m3⟩
  | .hbm, ⟨3, _⟩ => ⟨S64, .f32⟩
  | .hbm, ⟨4, _⟩ => ⟨S256x64x64, .fp8e4m3⟩
  | .hbm, ⟨5, _⟩ => ⟨S256, .f32⟩
  | .hbm, ⟨6, _⟩ => ⟨S2x4096x64x256, .fp8e4m3⟩
  | .hbm, ⟨7, _⟩ => ⟨S256x2x4096x64, .fp8e4m3⟩
  | .hbm, ⟨8, _⟩ => ⟨S256x8192x64, .fp8e4m3⟩
  | .hbm, ⟨9, _⟩ => ⟨S1x8192x1, .f32⟩
  | .hbm, ⟨10, _⟩ => ⟨S64x1x1, .f32⟩
  | .hbm, ⟨11, _⟩ => ⟨S256x1x1, .f32⟩
  | .hbm, ⟨12, _⟩ => ⟨S64x8192x256, .bf16⟩
  | .hbm, ⟨13, _⟩ => ⟨S256x8192x64, .fp8e4m3⟩
  | .hbm, ⟨14, _⟩ => ⟨S1x8192x1, .f32⟩
  | .hbm, ⟨15, _⟩ => ⟨S256x2x4096x64, .fp8e4m3⟩
  | .hbm, ⟨16, _⟩ => ⟨S2x4096x256x64, .fp8e4m3⟩
  | .hbm, ⟨17, _⟩ => ⟨S64x2x4096x256, .bf16⟩
  | .hbm, ⟨18, _⟩ => ⟨S2x4096x64x256, .bf16⟩
  | .hbm, ⟨19, _⟩ => ⟨S2x4096x16384, .bf16⟩
  | .hbm, ⟨20, _⟩ => ⟨S2x4096, .f32⟩
  | .local _ .vmem, ⟨0, _⟩ => ⟨S256x8192x64, .fp8e4m3⟩
  | .local _ .vmem, ⟨1, _⟩ => ⟨S1x8192x1, .f32⟩
  | .local _ .vmem, ⟨2, _⟩ => ⟨S64x256x256, .fp8e4m3⟩
  | .local _ .vmem, ⟨3, _⟩ => ⟨S64x1x1, .f32⟩
  | .local _ .vmem, ⟨4, _⟩ => ⟨S256x64x64, .fp8e4m3⟩
  | .local _ .vmem, ⟨5, _⟩ => ⟨S256x1x1, .f32⟩
  | .local _ .vmem, ⟨6, _⟩ => ⟨S64x8192x256, .bf16⟩
  | .local _ .vmem, ⟨7, _⟩ => ⟨S256x8192x64, .fp8e4m3⟩
  | .local _ .vmem, ⟨8, _⟩ => ⟨S1x8192x1, .f32⟩
  | _, _ => ⟨S2x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x8192x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x256x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x64x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x8192x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelStage1.lean ====
/- What the body of the first kernel leaves, in closed form and with no reference to what its scratch held before. The first
   counted loop writes the 64 slabs of the scratch and carries the largest magnitude; the scratch is then one known array, the
   second loop reads it back and writes the codes. `body_run` is the triple of the body the pipeline's proof cites. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.ValueKit
public import Idealize.ShloMosaic.Lib.VecWindow
public import Idealize.ShloMosaic.Lib.Tactic

@[expose] public section

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Slab `g` of a stack of 64 matrices, with its leading unit axis. -/
def slab {α : Type} (x : S64x256x256.Idx → α) (g : Fin 64) : S1x256x256.Idx → α :=
  fun y => x (ix3 g (y (1 : Fin 3)) (y (2 : Fin 3)))

/-- Slab `g` of a stack of 64 rows, with its leading unit axis. -/
def slabRow {α : Type} (x : S64x1x256.Idx → α) (g : Fin 64) : S1x1x256.Idx → α :=
  fun y => x (ix3 g (y (1 : Fin 3)) (y (2 : Fin 3)))

section Values

variable (x0 : Vec F S64x256x256 .fp8e4m3) (x1 : Vec F S256x1 .f32) (x2 : Vec F S64x256x256 .fp8e4m3) (x3 : Vec F S64x1x256 .f32)

/-- The carried magnitudes after the first `n` slabs. -/
def amaxTo : ℕ → FVec F S256x256 .f32
  | 0 => k0_pay2 (F := F)
  | n + 1 => if h : n < 64 then k0_pay5 x1 (amaxTo n) (slab x0 ⟨n, h⟩) (slab x2 ⟨n, h⟩) (slabRow x3 ⟨n, h⟩) else amaxTo n

/-- What the first loop leaves in the scratch. -/
def midOf : Vec F S64x256x256 .f32 := fun y =>
  k0_pay4 x1 (slab x0 (y (0 : Fin 3))) (slab x2 (y (0 : Fin 3))) (slabRow x3 (y (0 : Fin 3))) (ix3 (0 : Fin 1) (y (1 : Fin 3)) (y (2 : Fin 3)))

/-- The scales the body leaves. -/
def scalesOf : Vec F S256x1 .f32 :=
  k0_pay11 (k0_pay6 (amaxTo x0 x1 x2 x3 64)) (k0_pay7 (amaxTo x0 x1 x2 x3 64)) (k0_pay8 (amaxTo x0 x1 x2 x3 64)) (k0_pay9 (amaxTo x0 x1 x2 x3 64))

/-- The opposite exponents the second loop scales by. -/
def negOf : IVec S256x1 32 :=
  k0_pay12 (k0_pay6 (amaxTo x0 x1 x2 x3 64)) (k0_pay7 (amaxTo x0 x1 x2 x3 64)) (k0_pay8 (amaxTo x0 x1 x2 x3 64)) (k0_pay9 (amaxTo x0 x1 x2 x3 64))

/-- The codes the body leaves. -/
def codesOf : Vec F S64x256x256 .fp8e4m3 := fun y =>
  k0_pay1 (negOf x0 x1 x2 x3) 127#32 (slab (midOf x0 x1 x2 x3) (y (0 : Fin 3))) (ix3 (0 : Fin 1) (y (1 : Fin 3)) (y (2 : Fin 3)))

end Values

/-! ## The loads and stores of one trip -/

theorem trips1 : k0_t1_loop.trips = 64 := by decide +kernel
theorem trips2 : k0_t2_loop.trips = 64 := by decide +kernel
theorem off1 : ∀ k : Fin k0_t1_loop.trips, k0_off1 k = ![k.val, 0, 0] := k0_off1_eq
theorem off2 : ∀ k : Fin k0_t1_loop.trips, k0_off2 k = ![k.val, 0, 0] := by decide +kernel
theorem off3 : ∀ k : Fin k0_t2_loop.trips, k0_off3 k = ![k.val, 0, 0] := by decide +kernel

/-- Where a slab's rectangle puts its index. -/
theorem emb_slab {off : Fin 3 → ℕ} (g : Fin 64) (hoff : off = ![g.val, 0, 0]) (inb : ∀ a, off a + S1x256x256.size a ≤ S64x256x256.size a)
    (y : S1x256x256.Idx) :
    (Rect.unit (s := S64x256x256) off S1x256x256.size inb).emb y = ix3 g (y (1 : Fin 3)) (y (2 : Fin 3)) := by
  subst hoff
  funext a
  apply Fin.ext
  show (![g.val, 0, 0] : Fin 3 → ℕ) a + 1 * (y a).val = _
  have h0 : (y (0 : Fin 3)).val < 1 := (y (0 : Fin 3)).isLt
  match a with
  | ⟨0, _⟩ => show g.val + 1 * (y (0 : Fin 3)).val = g.val; omega
  | ⟨1, _⟩ => show 0 + 1 * (y (1 : Fin 3)).val = (y (1 : Fin 3)).val; omega
  | ⟨2, _⟩ => show 0 + 1 * (y (2 : Fin 3)).val = (y (2 : Fin 3)).val; omega

/-- A load of one slab. -/
theorem load_slab {e : EltTy} (M : Memref sig .tc .vmem S64x256x256 e) (X : M.view.ty.Contents (Elt F)) (x : Vec F S64x256x256 e)
    (hx : M.view.read (Elt F) X = x) (g : Fin 64) {off : Fin 3 → ℕ}
    (hoff : off = ![g.val, 0, 0]) (inb : ∀ a, off a + S1x256x256.size a ≤ S64x256x256.size a) :
    View.readAt (Elt F) M.view (Rect.unit (s := S64x256x256) off S1x256x256.size inb).toLoadRect X = slab x g := by
  subst hx
  funext y
  exact congrArg (M.view.read (Elt F) X) (emb_slab g hoff inb y)

theorem load_slabRow (M : Memref sig .tc .vmem S64x1x256 .f32) (X : M.view.ty.Contents (Elt F)) (x : Vec F S64x1x256 .f32)
    (hx : M.view.read (Elt F) X = x) (g : Fin 64) {off : Fin 3 → ℕ}
    (hoff : off = ![g.val, 0, 0]) (inb : ∀ a, off a + S1x1x256.size a ≤ S64x1x256.size a) :
    View.readAt (Elt F) M.view (Rect.unit (s := S64x1x256) off S1x1x256.size inb).toLoadRect X = slabRow x g := by
  subst hx hoff
  funext y
  refine congrArg (M.view.read (Elt F) X) (funext fun a => Fin.ext ?_)
  show (![g.val, 0, 0] : Fin 3 → ℕ) a + 1 * (y a).val = _
  have h0 : (y (0 : Fin 3)).val < 1 := (y (0 : Fin 3)).isLt
  match a with
  | ⟨0, _⟩ => show g.val + 1 * (y (0 : Fin 3)).val = g.val; omega
  | ⟨1, _⟩ => show 0 + 1 * (y (1 : Fin 3)).val = (y (1 : Fin 3)).val; omega
  | ⟨2, _⟩ => show 0 + 1 * (y (2 : Fin 3)).val = (y (2 : Fin 3)).val; omega

theorem mem_slab {off : Fin 3 → ℕ} (g : Fin 64) (hoff : off = ![g.val, 0, 0]) (inb : ∀ a, off a + S1x256x256.size a ≤ S64x256x256.size a)
    (y : S64x256x256.Idx) (hy : (y (0 : Fin 3)).val = g.val) : y ∈ (Rect.unit (s := S64x256x256) off S1x256x256.size inb).set := by
  subst hoff
  rw [Rect.mem_set_unit]
  intro a
  match a with
  | ⟨0, _⟩ => show g.val ≤ (y (0 : Fin 3)).val ∧ (y (0 : Fin 3)).val < g.val + 1; omega
  | ⟨1, _⟩ => exact ⟨Nat.zero_le _, by have h : (y (1 : Fin 3)).val < 256 := (y (1 : Fin 3)).isLt; show (y (1 : Fin 3)).val < 0 + 256; omega⟩
  | ⟨2, _⟩ => exact ⟨Nat.zero_le _, by have h : (y (2 : Fin 3)).val < 256 := (y (2 : Fin 3)).isLt; show (y (2 : Fin 3)).val < 0 + 256; omega⟩

/-! ## The two loops -/

section Loops

variable (𝒱 : Variants) (c : Dev nD) (bd : Option 𝒱.V) (i : grid0.Coords) (arg1 : Memref sig .tc .vmem S64x256x256 .fp8e4m3) (harg1 : arg1.IsWhole) (arg2 : Memref sig .tc .vmem S256x1 .f32) (harg2 : arg2.IsWhole) (arg3 : Memref sig .tc .vmem S64x256x256 .fp8e4m3) (harg3 : arg3.IsWhole) (arg4 : Memref sig .tc .vmem S64x1x256 .f32) (harg4 : arg4.IsWhole) (arg5 : Memref sig .tc .vmem S64x256x256 .fp8e4m3) (harg5 : arg5.IsWhole) (arg6 : Memref sig .tc .vmem S256x1 .f32) (harg6 : arg6.IsWhole) (arg7 : Memref sig .tc .vmem S64x256x256 .f32) (harg7 : arg7.IsWhole)
variable (x0 : Vec F S64x256x256 .fp8e4m3) (x1 : Vec F S256x1 .f32) (x2 : Vec F S64x256x256 .fp8e4m3) (x3 : Vec F S64x1x256 .f32)

/-- One trip of the first loop stores slab `k` of `midOf`. -/
theorem trip1_pieces (k : Fin k0_t1_loop.trips) (g : Fin 64) (hg : g.val = k.val) (acc : FVec F S256x256 .f32) :
    tripL_k0_t1 (F := F) 𝒱 c bd i arg1 harg1 arg2 harg2 arg3 harg3 arg4 harg4 arg5 harg5 arg6 harg6 arg7 harg7 x1 (harg1.unread x0) (harg3.unread x2) (harg4.unread x3) k acc
      = [⟨Rect.unit (s := S64x256x256) (k0_off1 k) S1x256x256.size (k0_off1_inb k), k0_pay4 x1 (slab x0 g) (slab x2 g) (slabRow x3 g)⟩] := by
  have h : k0_off1 k = ![g.val, 0, 0] := by rw [off1, hg]
  have h' : k0_off2 k = ![g.val, 0, 0] := by rw [off2, hg]
  rw [← load_slab arg1 (harg1.unread x0) x0 (harg1.read_unread x0) g h (k0_off1_inb k),
    ← load_slab arg3 (harg3.unread x2) x2 (harg3.read_unread x2) g h (k0_off1_inb k),
    ← load_slabRow arg4 (harg4.unread x3) x3 (harg4.read_unread x3) g h' (k0_off2_inb k)]
  unfold tripL_k0_t1 trip_k0_t1
  rfl

/-- One trip of the first loop raises the carried magnitudes by slab `k`. -/
theorem trip1_value (k : Fin k0_t1_loop.trips) (g : Fin 64) (hg : g.val = k.val) (acc : FVec F S256x256 .f32) :
    tripR_k0_t1 (F := F) 𝒱 c bd i arg1 harg1 arg2 harg2 arg3 harg3 arg4 harg4 arg5 harg5 arg6 harg6 arg7 harg7 x1 (harg1.unread x0) (harg3.unread x2) (harg4.unread x3) k acc
      = k0_pay5 x1 acc (slab x0 g) (slab x2 g) (slabRow x3 g) := by
  have h : k0_off1 k = ![g.val, 0, 0] := by rw [off1, hg]
  have h' : k0_off2 k = ![g.val, 0, 0] := by rw [off2, hg]
  rw [← load_slab arg1 (harg1.unread x0) x0 (harg1.read_unread x0) g h (k0_off1_inb k),
    ← load_slab arg3 (harg3.unread x2) x2 (harg3.read_unread x2) g h (k0_off1_inb k),
    ← load_slabRow arg4 (harg4.unread x3) x3 (harg4.read_unread x3) g h' (k0_off2_inb k)]
  unfold tripR_k0_t1 trip_k0_t1
  rfl

/-- One trip of the second loop stores slab `k` of the codes of what the scratch holds. -/
theorem trip2_pieces (v81 : IVec S256x1 32) (w : BitVec 32) (z : Vec F S64x256x256 .f32) (k : Fin k0_t2_loop.trips) (g : Fin 64) (hg : g.val = k.val) :
    tripL_k0_t2 (F := F) 𝒱 c bd i arg1 harg1 arg2 harg2 arg3 harg3 arg4 harg4 arg5 harg5 arg6 harg6 arg7 harg7 v81 w (harg7.unread z) k
      = [⟨Rect.unit (s := S64x256x256) (k0_off3 k) S1x256x256.size (k0_off3_inb k), k0_pay1 v81 w (slab z g)⟩] := by
  have h : k0_off3 k = ![g.val, 0, 0] := by rw [off3, hg]
  rw [← load_slab arg7 (harg7.unread z) z (harg7.read_unread z) g h (k0_off3_inb k)]
  unfold tripL_k0_t2 trip_k0_t2
  rfl

/-- The state of the first loop before trip `n`: the carried magnitudes, and pieces that are slabs of `midOf` and hold every slab
    before `n`. -/
theorem loop1_state (n : ℕ) (hn : n ≤ 64) :
    (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) n).1
        = amaxTo x0 x1 x2 x3 n
    ∧ (∀ p ∈ (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) n).2,
        ∀ y : p.1.shape.Idx, p.2 y = midOf x0 x1 x2 x3 (p.1.emb y))
    ∧ (∀ y : S64x256x256.Idx, (y (0 : Fin 3)).val < n →
        ∃ p ∈ (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) n).2,
          y ∈ p.1.set) := by
  induction n with
  | zero => exact ⟨rfl, fun p hp => absurd hp List.not_mem_nil, fun y hy => absurd hy (Nat.not_lt_zero _)⟩
  | succ n ih =>
    obtain ⟨ih1, ih2, ih3⟩ := ih (by omega)
    have hk : n < k0_t1_loop.trips := by rw [trips1]; omega
    have hs := st_k0_t1_succ (F := F) 𝒱 c bd i arg1 harg1 arg2 harg2 arg3 harg3 arg4 harg4 arg5 harg5 arg6 harg6 arg7 harg7 x1 (harg1.unread x0) (harg3.unread x2) (harg4.unread x3) (k0_pay2 (F := F)) ⟨n, hk⟩
    dsimp only at hs
    rw [trip1_pieces 𝒱 c bd i arg1 harg1 arg2 harg2 arg3 harg3 arg4 harg4 arg5 harg5 arg6 harg6 arg7 harg7 x0 x1 x2 x3 ⟨n, hk⟩ ⟨n, by omega⟩ rfl,
      trip1_value 𝒱 c bd i arg1 harg1 arg2 harg2 arg3 harg3 arg4 harg4 arg5 harg5 arg6 harg6 arg7 harg7 x0 x1 x2 x3 ⟨n, hk⟩ ⟨n, by omega⟩ rfl, ih1] at hs
    rw [hs]
    refine ⟨?_, ?_, ?_⟩
    · show _ = if h : n < 64 then _ else _
      rw [dif_pos (by omega)]
    · intro p hp
      rcases List.mem_append.mp hp with hp | hp
      · obtain rfl := List.mem_singleton.mp hp
        intro (y : S1x256x256.Idx)
        refine Eq.trans ?_ (congrArg (midOf x0 x1 x2 x3) (emb_slab ⟨n, by omega⟩ (off1 ⟨n, hk⟩) (k0_off1_inb ⟨n, hk⟩) y).symm)
        have hy : y = ix3 (0 : Fin 1) (y (1 : Fin 3)) (y (2 : Fin 3)) := by
          conv_lhs => rw [eq_ix3 y]
          congr 1
          exact Fin.ext (by have := (y (0 : Fin 3)).isLt; show (y (0 : Fin 3)).val = 0; have h : (y (0 : Fin 3)).val < 1 := this; omega)
        exact congrArg (k0_pay4 x1 (slab x0 ⟨n, _⟩) (slab x2 ⟨n, _⟩) (slabRow x3 ⟨n, _⟩)) hy
      · exact ih2 p hp
    · intro y hy
      by_cases hyn : (y (0 : Fin 3)).val < n
      · obtain ⟨p, hp, hm⟩ := ih3 y hyn
        exact ⟨p, List.mem_append_right _ hp, hm⟩
      · exact ⟨_, List.mem_append_left _ (List.mem_singleton.mpr rfl), mem_slab ⟨n, by omega⟩ (off1 ⟨n, hk⟩) (k0_off1_inb ⟨n, hk⟩) y (by show _ = n; omega)⟩

/-- After the first loop the scratch reads `midOf`, whatever it held. -/
theorem loop1_scratch (f : arg7.view.ty.Contents (Elt F)) :
    arg7.view.writes (Elt F) f (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) 64).2
      = harg7.unread (midOf x0 x1 x2 x3) := by
  obtain ⟨-, h2, h3⟩ := loop1_state 𝒱 c bd i arg1 harg1 arg2 harg2 arg3 harg3 arg4 harg4 arg5 harg5 arg6 harg6 arg7 harg7 x0 x1 x2 x3 64 le_rfl
  refine harg7.eq_unread (funext fun y => ?_)
  exact View.read_writes_apply_of_pieces arg7.view f (midOf x0 x1 x2 x3) _ h2 y (h3 y (y (0 : Fin 3)).isLt)

/-- The pieces of the second loop before trip `n`. -/
theorem loop2_state (n : ℕ) (hn : n ≤ 64) :
    (∀ p ∈ pb_k0_t2 (F := F) 𝒱 c bd i arg1 harg1 arg2 harg2 arg3 harg3 arg4 harg4 arg5 harg5 arg6 harg6 arg7 harg7 (negOf x0 x1 x2 x3) 127#32 (harg7.unread (midOf x0 x1 x2 x3)) n,
        ∀ y : p.1.shape.Idx, p.2 y = codesOf x0 x1 x2 x3 (p.1.emb y))
    ∧ (∀ y : S64x256x256.Idx, (y (0 : Fin 3)).val < n →
        ∃ p ∈ pb_k0_t2 (F := F) 𝒱 c bd i arg1 harg1 arg2 harg2 arg3 harg3 arg4 harg4 arg5 harg5 arg6 harg6 arg7 harg7 (negOf x0 x1 x2 x3) 127#32 (harg7.unread (midOf x0 x1 x2 x3)) n,
          y ∈ p.1.set) := by
  induction n with
  | zero => exact ⟨fun p hp => absurd hp List.not_mem_nil, fun y hy => absurd hy (Nat.not_lt_zero _)⟩
  | succ n ih =>
    obtain ⟨ih2, ih3⟩ := ih (by omega)
    have hk : n < k0_t2_loop.trips := by rw [trips2]; omega
    have hs := pb_k0_t2_succ (F := F) 𝒱 c bd i arg1 harg1 arg2 harg2 arg3 harg3 arg4 harg4 arg5 harg5 arg6 harg6 arg7 harg7 (negOf x0 x1 x2 x3) 127#32 (harg7.unread (midOf x0 x1 x2 x3)) ⟨n, hk⟩
    dsimp only at hs
    rw [trip2_pieces 𝒱 c bd i arg1 harg1 arg2 harg2 arg3 harg3 arg4 harg4 arg5 harg5 arg6 harg6 arg7 harg7 (negOf x0 x1 x2 x3) 127#32 (midOf x0 x1 x2 x3) ⟨n, hk⟩ ⟨n, by omega⟩ rfl] at hs
    rw [hs]
    refine ⟨?_, ?_⟩
    · intro p hp
      rcases List.mem_append.mp hp with hp | hp
      · obtain rfl := List.mem_singleton.mp hp
        intro (y : S1x256x256.Idx)
        refine Eq.trans ?_ (congrArg (codesOf x0 x1 x2 x3) (emb_slab ⟨n, by omega⟩ (off3 ⟨n, hk⟩) (k0_off3_inb ⟨n, hk⟩) y).symm)
        have hy : y = ix3 (0 : Fin 1) (y (1 : Fin 3)) (y (2 : Fin 3)) := by
          conv_lhs => rw [eq_ix3 y]
          congr 1
          exact Fin.ext (by have := (y (0 : Fin 3)).isLt; show (y (0 : Fin 3)).val = 0; have h : (y (0 : Fin 3)).val < 1 := this; omega)
        exact congrArg (k0_pay1 (negOf x0 x1 x2 x3) 127#32 (slab (midOf x0 x1 x2 x3) ⟨n, _⟩)) hy
      · exact ih2 p hp
    · intro y hy
      by_cases hyn : (y (0 : Fin 3)).val < n
      · obtain ⟨p, hp, hm⟩ := ih3 y hyn
        exact ⟨p, List.mem_append_right _ hp, hm⟩
      · exact ⟨_, List.mem_append_left _ (List.mem_singleton.mpr rfl), mem_slab ⟨n, by omega⟩ (off3 ⟨n, hk⟩) (k0_off3_inb ⟨n, hk⟩) y (by show _ = n; omega)⟩

/-- After the second loop the codes' buffer reads `codesOf`, whatever it held. -/
theorem loop2_codes (f : arg5.view.ty.Contents (Elt F)) :
    arg5.view.read (Elt F) (arg5.view.writes (Elt F) f (pb_k0_t2 (F := F) 𝒱 c bd i arg1 harg1 arg2 harg2 arg3 harg3 arg4 harg4 arg5 harg5 arg6 harg6 arg7 harg7 (negOf x0 x1 x2 x3) 127#32 (harg7.unread (midOf x0 x1 x2 x3)) 64))
      = codesOf x0 x1 x2 x3 := by
  obtain ⟨h2, h3⟩ := loop2_state 𝒱 c bd i arg1 harg1 arg2 harg2 arg3 harg3 arg4 harg4 arg5 harg5 arg6 harg6 arg7 harg7 x0 x1 x2 x3 64 le_rfl
  funext y
  exact View.read_writes_apply_of_pieces arg5.view f (codesOf x0 x1 x2 x3) _ h2 y (h3 y (y (0 : Fin 3)).isLt)

end Loops

/-! ## The body -/

/-- The body on whole buffers, the inputs' at `x0` … `x3`: it leaves `codesOf` and `scalesOf` of them in the outputs' buffers. -/
theorem body_run (c : Dev nD) (i : grid0.Coords) (arg1 : Memref sig .tc .vmem S64x256x256 .fp8e4m3) (harg1 : arg1.IsWhole) (arg2 : Memref sig .tc .vmem S256x1 .f32) (harg2 : arg2.IsWhole) (arg3 : Memref sig .tc .vmem S64x256x256 .fp8e4m3) (harg3 : arg3.IsWhole) (arg4 : Memref sig .tc .vmem S64x1x256 .f32) (harg4 : arg4.IsWhole) (arg5 : Memref sig .tc .vmem S64x256x256 .fp8e4m3) (harg5 : arg5.IsWhole) (arg6 : Memref sig .tc .vmem S256x1 .f32) (harg6 : arg6.IsWhole) (arg7 : Memref sig .tc .vmem S64x256x256 .f32) (harg7 : arg7.IsWhole)
    (x0 : Vec F S64x256x256 .fp8e4m3) (x1 : Vec F S256x1 .f32) (x2 : Vec F S64x256x256 .fp8e4m3) (x3 : Vec F S64x1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (codesOf x0 x1 x2 x3) ∗ owns (c : Thread nD τ) arg6 fullShare (scalesOf x0 x1 x2 x3) ∗ (∃ d, owns (c : Thread nD τ) arg7 fullShare d)) -∗ K ⟨⟩))
      ⊢ wp frame (wpE (defs₀ (F := F)) Variants.none c none) E (cc0_stage1 i arg1 harg1 arg2 harg2 arg3 harg3 arg4 harg4 arg5 harg5 arg6 harg6 arg7 harg7) K := by
  simp only [cc0_stage1_eq_skeleton]; unfold cc0_stage1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    have hx : View.readAt (Elt F) arg2.view (Rect.unit (s := S256x1) ![0, 0] S256x1.size inb_S256x1_S256x1_0_0).toLoadRect (harg2.unread x1) = x1 := by
      rw [View.readAt_full, harg2.read_unread]
    have h1 := (loop1_state Variants.none c none i arg1 harg1 arg2 harg2 arg3 harg3 arg4 harg4 arg5 harg5 arg6 harg6 arg7 harg7 x0 x1 x2 x3 64 le_rfl).1
    have h2 := loop1_scratch Variants.none c none i arg1 harg1 arg2 harg2 arg3 harg3 arg4 harg4 arg5 harg5 arg6 harg6 arg7 harg7 x0 x1 x2 x3 fs0
    have h3 := loop2_codes Variants.none c none i arg1 harg1 arg2 harg2 arg3 harg3 arg4 harg4 arg5 harg5 arg6 harg6 arg7 harg7 x0 x1 x2 x3 f4
    unfold body_run.sl.r_4 body_run.sl.r body_run.sl.r_1 body_run.sl.r_2 body_run.sl.r_3
    rw [hx, show Scf.trips k0_t1_loop.lb k0_t1_loop.ub k0_t1_loop.st = 64 from trips1, h1, h2]
    exact h3
  isplitl [H5]
  · iexists _; isplitr; swap; · iexact H5
    ipureintro
    have hx : View.readAt (Elt F) arg2.view (Rect.unit (s := S256x1) ![0, 0] S256x1.size inb_S256x1_S256x1_0_0).toLoadRect (harg2.unread x1) = x1 := by
      rw [View.readAt_full, harg2.read_unread]
    have h1 := (loop1_state Variants.none c none i arg1 harg1 arg2 harg2 arg3 harg3 arg4 harg4 arg5 harg5 arg6 harg6 arg7 harg7 x0 x1 x2 x3 64 le_rfl).1
    unfold body_run.sl.H5_1 body_run.sl.r body_run.sl.r_1 body_run.sl.r_2 body_run.sl.r_3
    rw [hx, show Scf.trips k0_t1_loop.lb k0_t1_loop.ub k0_t1_loop.st = 64 from trips1, h1]
    exact View.read_writes_full arg6.view _ inb_S256x1_S256x1_0_0 _ []
  iexists _, _; isplitr; swap; · iexact HS0
  ipureintro; rfl

end Cert.Kernel.Stage1
-- ==== Proof.KernelRun.lean ====
/- The program from launch to exit: the two kernels' proof data, the contents of every buffer at each boundary of `main` (`W0` … `W7`),
   and the run theorem `run`, whose corollary `frame` says that `main` stops with its arguments unchanged. The second kernel and the
   chaining follow the pattern every pipelined program has here; the first kernel's body is `Stage1.body_run`, because its second loop reads
   a scratch that its first loop fills, which needs the loops' closed forms. -/
module

public import proofs.«01_k».proof.Proof.Gen.Kernel.Launch
public import proofs.«01_k».proof.Proof.Gen.Kernel.Skeleton
public import proofs.«01_k».proof.Proof.Gen.Kernel.Points
public import proofs.«01_k».proof.Proof.KernelStage1
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_stage1` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 4, through which its contents are stated (`View.read_writes_of_cover`: the
    choice does not matter). -/
abbrev VO0_4 : View sig .tc .vmem S64x256x256 .fp8e4m3 := (Memref.whole cc0_stg4_0 : Memref sig .tc .vmem S64x256x256 .fp8e4m3).view
/-- One staging buffer of output window 5, through which its contents are stated (`View.read_writes_of_cover`: the
    choice does not matter). -/
abbrev VO0_5 : View sig .tc .vmem S256x1 .f32 := (Memref.whole cc0_stg5_0 : Memref sig .tc .vmem S256x1 .f32).view
/-- Each window's current staging memref at point `t`, spelled as the pipeline passes it (`bodyAt0`), and its wholeness. -/
abbrev ms0_0 (t : Fin cfg0.N) : Memref sig .tc .vmem S64x256x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S64x256x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg3_0), ((c : Thread nD τ).loc cc1_stg3_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-! ## What the outputs hold after each point -/

/-- What the outputs' staging buffers hold after the body at point `t` (as a tuple, in window order): the run's contents at
    the point's memrefs and input blocks. -/
def outsAt0 (c : Dev nD) (t : Fin cfg0.N) : Vec F S64x256x256 .fp8e4m3 × Vec F S256x1 .f32 :=
  (Stage1.codesOf (iblk0 V c 0 t) (iblk0 V c 1 t) (iblk0 V c 2 t) (iblk0 V c 3 t), Stage1.scalesOf (iblk0 V c 0 t) (iblk0 V c 1 t) (iblk0 V c 2 t) (iblk0 V c 3 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem after0_5 (c : Dev nD) (t : Fin cfg0.N) : (dat0 V c).after 5 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  (try dsimp only)
  iintro ⟨⟨⟨HS0, HR1, HR2, HR3, HR4, HR5, HR6, HR7, HR8⟩, Hg⟩, Ho, ⟨%d0, H0⟩, ⟨%d1, H1⟩, ⟨%d2, H2⟩, ⟨%d3, H3⟩, ⟨%d4, H4⟩, ⟨%d5, H5⟩⟩
  iapply (Stage1.body_run c (grid0.coords t) _ _ _ _ _ _ _ _ _ _ _ _ _ _ (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, H4, H5, HS0⟩
  isplitl [HS0 HR1 HR2 HR3 HR4 HR5 HR6 HR7 HR8 Hg]
  · isplitl [HS0 HR1 HR2 HR3 HR4 HR5 HR6 HR7 HR8]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HR8
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_stage2` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S1024x256 .bf16 := (Memref.whole cc1_stg4_0 : Memref sig .tc .vmem S1024x256 .bf16).view
/-- Each window's current staging memref at point `t`, spelled as the pipeline passes it (`bodyAt1`), and its wholeness. -/
abbrev ms1_0 (t : Fin cfg1.N) : Memref sig .tc .vmem S1x1024x256 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x256x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .bf16 := win1_4.stage (cfg1.slots t 4)
abbrev hs1_4 (t : Fin cfg1.N) : (ms1_4 t).IsWhole := hstage1_4 ((cfg1.slots t 4).cast nbuf1_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1x1024x256 .fp8e4m3) (harg2 : arg2.IsWhole) (arg3 : Memref sig .tc .vmem S1024x1 .f32) (harg3 : arg3.IsWhole) (arg4 : Memref sig .tc .vmem S64x256x256 .fp8e4m3) (harg4 : arg4.IsWhole) (arg5 : Memref sig .tc .smem S64 .f32) (harg5 : arg5.IsWhole) (arg6 : Memref sig .tc .vmem S1024x256 .bf16) (harg6 : arg6.IsWhole)
    (x0 : Vec F S1x1024x256 .fp8e4m3) (x1 : Vec F S1024x1 .f32) (x2 : Vec F S64x256x256 .fp8e4m3) (x3 : Vec F S64 .f32) :
    { L4 : List (View.Piece (Elt F) S1024x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1_stage2 i arg2 harg2 arg3 harg3 arg4 harg4 arg5 harg5 arg6 harg6) K } := by
  refine ⟨?_, fun E K => ?run⟩
  case run =>
    simp only [cc1_stage2_eq_skeleton]; unfold cc1_stage2_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S1024x256`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1x1024x256 .fp8e4m3) (harg2 : arg2.IsWhole) (arg3 : Memref sig .tc .vmem S1024x1 .f32) (harg3 : arg3.IsWhole) (arg4 : Memref sig .tc .vmem S64x256x256 .fp8e4m3) (harg4 : arg4.IsWhole) (arg5 : Memref sig .tc .smem S64 .f32) (harg5 : arg5.IsWhole) (arg6 : Memref sig .tc .vmem S1024x256 .bf16) (harg6 : arg6.IsWhole)
    (x0 : Vec F S1x1024x256 .fp8e4m3) (x1 : Vec F S1024x1 .f32) (x2 : Vec F S64x256x256 .fp8e4m3) (x3 : Vec F S64 .f32) (y : S1024x256.Idx) :
    ∃ pc ∈ (kernelRun1_A c i arg2 harg2 arg3 harg3 arg4 harg4 arg5 harg5 arg6 harg6 x0 x1 x2 x3).1, y ∈ pc.1.set :=
  View.cover_of_tiledL (kernelRun1_A c i arg2 harg2 arg3 harg3 arg4 harg4 arg5 harg5 arg6 harg6 x0 x1 x2 x3).1 S1024x256.size (by sl_kernel_rfl) y

/-- What the run leaves in output 4's staging buffer: its pieces read back over junk. -/
def out1_A_4 (c : Dev nD) (i : grid1.Coords) (arg2 : Memref sig .tc .vmem S1x1024x256 .fp8e4m3) (harg2 : arg2.IsWhole) (arg3 : Memref sig .tc .vmem S1024x1 .f32) (harg3 : arg3.IsWhole) (arg4 : Memref sig .tc .vmem S64x256x256 .fp8e4m3) (harg4 : arg4.IsWhole) (arg5 : Memref sig .tc .smem S64 .f32) (harg5 : arg5.IsWhole) (arg6 : Memref sig .tc .vmem S1024x256 .bf16) (harg6 : arg6.IsWhole)
    (x0 : Vec F S1x1024x256 .fp8e4m3) (x1 : Vec F S1024x1 .f32) (x2 : Vec F S64x256x256 .fp8e4m3) (x3 : Vec F S64 .f32) : Vec F S1024x256 .bf16 :=
  VO1_4.read (Elt F) (VO1_4.writes (Elt F) VO1_4.junk (kernelRun1_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt1 (c : Dev nD) (t : Fin cfg1.N) : Vec F S1024x256 .bf16 :=
  out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_c, main_v7, main_v8, main_v9, main_v10, main_v11, main_c_0, main_v12]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_v13]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v14, main_v15, main_v16, main_v17, main_v18]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v20, main_v21, main_v22, main_v23, main_v24]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v26, main_v27]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters, every weakly fair execution of `main` on the TensorCores terminates without a fault, with
    every buffer of the TensorCore that is not scoped at its contents `W7` and every semaphore counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- `main` stops with its arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c),
     (h.1 c _ (mem_uc main_arg4 (by decide))).trans (W7_main_arg4 m ρ c),
     (h.1 c _ (mem_uc main_arg5 (by decide))).trans (W7_main_arg5 m ρ c)⟩, h.2⟩) (run m ρ)

end Cert.Kernel.Run

end
-- ==== Proof.IdealStage1.lean ====
/- What the body of the first kernel leaves, in closed form and with no reference to what its scratch held before. The first
   counted loop writes the 64 slabs of the scratch and carries the largest magnitude; the scratch is then one known array, the
   second loop reads it back and writes the codes. `body_run` is the triple of the body the pipeline's proof cites. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.ValueKit
public import Idealize.ShloMosaic.Lib.VecWindow
public import Idealize.ShloMosaic.Lib.Tactic

@[expose] public section

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Slab `g` of a stack of 64 matrices, with its leading unit axis. -/
def slab {α : Type} (x : S64x256x256.Idx → α) (g : Fin 64) : S1x256x256.Idx → α :=
  fun y => x (ix3 g (y (1 : Fin 3)) (y (2 : Fin 3)))

/-- Slab `g` of a stack of 64 rows, with its leading unit axis. -/
def slabRow {α : Type} (x : S64x1x256.Idx → α) (g : Fin 64) : S1x1x256.Idx → α :=
  fun y => x (ix3 g (y (1 : Fin 3)) (y (2 : Fin 3)))

section Values

variable (x0 : Vec F S64x256x256 .fp8e4m3) (x1 : Vec F S256x1 .f32) (x2 : Vec F S64x256x256 .fp8e4m3) (x3 : Vec F S64x1x256 .f32)

/-- The carried magnitudes after the first `n` slabs. -/
def amaxTo : ℕ → FVec F S256x256 .f32
  | 0 => k0_pay2 (F := F)
  | n + 1 => if h : n < 64 then k0_pay5 x1 (amaxTo n) (slab x0 ⟨n, h⟩) (slab x2 ⟨n, h⟩) (slabRow x3 ⟨n, h⟩) else amaxTo n

/-- What the first loop leaves in the scratch. -/
def midOf : Vec F S64x256x256 .f32 := fun y =>
  k0_pay4 x1 (slab x0 (y (0 : Fin 3))) (slab x2 (y (0 : Fin 3))) (slabRow x3 (y (0 : Fin 3))) (ix3 (0 : Fin 1) (y (1 : Fin 3)) (y (2 : Fin 3)))

/-- The scales the body leaves. -/
def scalesOf : Vec F S256x1 .f32 :=
  k0_pay11 (k0_pay6 (amaxTo x0 x1 x2 x3 64)) (k0_pay7 (amaxTo x0 x1 x2 x3 64)) (k0_pay8 (amaxTo x0 x1 x2 x3 64)) (k0_pay9 (amaxTo x0 x1 x2 x3 64))

/-- The opposite exponents the second loop scales by. -/
def negOf : IVec S256x1 32 :=
  k0_pay12 (k0_pay6 (amaxTo x0 x1 x2 x3 64)) (k0_pay7 (amaxTo x0 x1 x2 x3 64)) (k0_pay8 (amaxTo x0 x1 x2 x3 64)) (k0_pay9 (amaxTo x0 x1 x2 x3 64))

/-- The codes the body leaves. -/
def codesOf : Vec F S64x256x256 .fp8e4m3 := fun y =>
  k0_pay1 (negOf x0 x1 x2 x3) 127#32 (slab (midOf x0 x1 x2 x3) (y (0 : Fin 3))) (ix3 (0 : Fin 1) (y (1 : Fin 3)) (y (2 : Fin 3)))

end Values

/-! ## The loads and stores of one trip -/

theorem trips1 : k0_t1_loop.trips = 64 := by decide +kernel
theorem trips2 : k0_t2_loop.trips = 64 := by decide +kernel
theorem off1 : ∀ k : Fin k0_t1_loop.trips, k0_off1 k = ![k.val, 0, 0] := k0_off1_eq
theorem off2 : ∀ k : Fin k0_t1_loop.trips, k0_off2 k = ![k.val, 0, 0] := by decide +kernel
theorem off3 : ∀ k : Fin k0_t2_loop.trips, k0_off3 k = ![k.val, 0, 0] := by decide +kernel

/-- Where a slab's rectangle puts its index. -/
theorem emb_slab {off : Fin 3 → ℕ} (g : Fin 64) (hoff : off = ![g.val, 0, 0]) (inb : ∀ a, off a + S1x256x256.size a ≤ S64x256x256.size a)
    (y : S1x256x256.Idx) :
    (Rect.unit (s := S64x256x256) off S1x256x256.size inb).emb y = ix3 g (y (1 : Fin 3)) (y (2 : Fin 3)) := by
  subst hoff
  funext a
  apply Fin.ext
  show (![g.val, 0, 0] : Fin 3 → ℕ) a + 1 * (y a).val = _
  have h0 : (y (0 : Fin 3)).val < 1 := (y (0 : Fin 3)).isLt
  match a with
  | ⟨0, _⟩ => show g.val + 1 * (y (0 : Fin 3)).val = g.val; omega
  | ⟨1, _⟩ => show 0 + 1 * (y (1 : Fin 3)).val = (y (1 : Fin 3)).val; omega
  | ⟨2, _⟩ => show 0 + 1 * (y (2 : Fin 3)).val = (y (2 : Fin 3)).val; omega

/-- A load of one slab. -/
theorem load_slab {e : EltTy} (M : Memref sig .tc .vmem S64x256x256 e) (X : M.view.ty.Contents (Elt F)) (x : Vec F S64x256x256 e)
    (hx : M.view.read (Elt F) X = x) (g : Fin 64) {off : Fin 3 → ℕ}
    (hoff : off = ![g.val, 0, 0]) (inb : ∀ a, off a + S1x256x256.size a ≤ S64x256x256.size a) :
    View.readAt (Elt F) M.view (Rect.unit (s := S64x256x256) off S1x256x256.size inb).toLoadRect X = slab x g := by
  subst hx
  funext y
  exact congrArg (M.view.read (Elt F) X) (emb_slab g hoff inb y)

theorem load_slabRow (M : Memref sig .tc .vmem S64x1x256 .f32) (X : M.view.ty.Contents (Elt F)) (x : Vec F S64x1x256 .f32)
    (hx : M.view.read (Elt F) X = x) (g : Fin 64) {off : Fin 3 → ℕ}
    (hoff : off = ![g.val, 0, 0]) (inb : ∀ a, off a + S1x1x256.size a ≤ S64x1x256.size a) :
    View.readAt (Elt F) M.view (Rect.unit (s := S64x1x256) off S1x1x256.size inb).toLoadRect X = slabRow x g := by
  subst hx hoff
  funext y
  refine congrArg (M.view.read (Elt F) X) (funext fun a => Fin.ext ?_)
  show (![g.val, 0, 0] : Fin 3 → ℕ) a + 1 * (y a).val = _
  have h0 : (y (0 : Fin 3)).val < 1 := (y (0 : Fin 3)).isLt
  match a with
  | ⟨0, _⟩ => show g.val + 1 * (y (0 : Fin 3)).val = g.val; omega
  | ⟨1, _⟩ => show 0 + 1 * (y (1 : Fin 3)).val = (y (1 : Fin 3)).val; omega
  | ⟨2, _⟩ => show 0 + 1 * (y (2 : Fin 3)).val = (y (2 : Fin 3)).val; omega

theorem mem_slab {off : Fin 3 → ℕ} (g : Fin 64) (hoff : off = ![g.val, 0, 0]) (inb : ∀ a, off a + S1x256x256.size a ≤ S64x256x256.size a)
    (y : S64x256x256.Idx) (hy : (y (0 : Fin 3)).val = g.val) : y ∈ (Rect.unit (s := S64x256x256) off S1x256x256.size inb).set := by
  subst hoff
  rw [Rect.mem_set_unit]
  intro a
  match a with
  | ⟨0, _⟩ => show g.val ≤ (y (0 : Fin 3)).val ∧ (y (0 : Fin 3)).val < g.val + 1; omega
  | ⟨1, _⟩ => exact ⟨Nat.zero_le _, by have h : (y (1 : Fin 3)).val < 256 := (y (1 : Fin 3)).isLt; show (y (1 : Fin 3)).val < 0 + 256; omega⟩
  | ⟨2, _⟩ => exact ⟨Nat.zero_le _, by have h : (y (2 : Fin 3)).val < 256 := (y (2 : Fin 3)).isLt; show (y (2 : Fin 3)).val < 0 + 256; omega⟩

/-! ## The two loops -/

section Loops

variable (𝒱 : Variants) (c : Dev nD) (bd : Option 𝒱.V) (i : grid0.Coords) (arg1 : Memref sig .tc .vmem S64x256x256 .fp8e4m3) (harg1 : arg1.IsWhole) (arg2 : Memref sig .tc .vmem S256x1 .f32) (harg2 : arg2.IsWhole) (arg3 : Memref sig .tc .vmem S64x256x256 .fp8e4m3) (harg3 : arg3.IsWhole) (arg4 : Memref sig .tc .vmem S64x1x256 .f32) (harg4 : arg4.IsWhole) (arg5 : Memref sig .tc .vmem S64x256x256 .fp8e4m3) (harg5 : arg5.IsWhole) (arg6 : Memref sig .tc .vmem S256x1 .f32) (harg6 : arg6.IsWhole) (arg7 : Memref sig .tc .vmem S64x256x256 .f32) (harg7 : arg7.IsWhole)
variable (x0 : Vec F S64x256x256 .fp8e4m3) (x1 : Vec F S256x1 .f32) (x2 : Vec F S64x256x256 .fp8e4m3) (x3 : Vec F S64x1x256 .f32)

/-- One trip of the first loop stores slab `k` of `midOf`. -/
theorem trip1_pieces (k : Fin k0_t1_loop.trips) (g : Fin 64) (hg : g.val = k.val) (acc : FVec F S256x256 .f32) :
    tripL_k0_t1 (F := F) 𝒱 c bd i arg1 harg1 arg2 harg2 arg3 harg3 arg4 harg4 arg5 harg5 arg6 harg6 arg7 harg7 x1 (harg1.unread x0) (harg3.unread x2) (harg4.unread x3) k acc
      = [⟨Rect.unit (s := S64x256x256) (k0_off1 k) S1x256x256.size (k0_off1_inb k), k0_pay4 x1 (slab x0 g) (slab x2 g) (slabRow x3 g)⟩] := by
  have h : k0_off1 k = ![g.val, 0, 0] := by rw [off1, hg]
  have h' : k0_off2 k = ![g.val, 0, 0] := by rw [off2, hg]
  rw [← load_slab arg1 (harg1.unread x0) x0 (harg1.read_unread x0) g h (k0_off1_inb k),
    ← load_slab arg3 (harg3.unread x2) x2 (harg3.read_unread x2) g h (k0_off1_inb k),
    ← load_slabRow arg4 (harg4.unread x3) x3 (harg4.read_unread x3) g h' (k0_off2_inb k)]
  unfold tripL_k0_t1 trip_k0_t1
  rfl

/-- One trip of the first loop raises the carried magnitudes by slab `k`. -/
theorem trip1_value (k : Fin k0_t1_loop.trips) (g : Fin 64) (hg : g.val = k.val) (acc : FVec F S256x256 .f32) :
    tripR_k0_t1 (F := F) 𝒱 c bd i arg1 harg1 arg2 harg2 arg3 harg3 arg4 harg4 arg5 harg5 arg6 harg6 arg7 harg7 x1 (harg1.unread x0) (harg3.unread x2) (harg4.unread x3) k acc
      = k0_pay5 x1 acc (slab x0 g) (slab x2 g) (slabRow x3 g) := by
  have h : k0_off1 k = ![g.val, 0, 0] := by rw [off1, hg]
  have h' : k0_off2 k = ![g.val, 0, 0] := by rw [off2, hg]
  rw [← load_slab arg1 (harg1.unread x0) x0 (harg1.read_unread x0) g h (k0_off1_inb k),
    ← load_slab arg3 (harg3.unread x2) x2 (harg3.read_unread x2) g h (k0_off1_inb k),
    ← load_slabRow arg4 (harg4.unread x3) x3 (harg4.read_unread x3) g h' (k0_off2_inb k)]
  unfold tripR_k0_t1 trip_k0_t1
  rfl

/-- One trip of the second loop stores slab `k` of the codes of what the scratch holds. -/
theorem trip2_pieces (v81 : IVec S256x1 32) (w : BitVec 32) (z : Vec F S64x256x256 .f32) (k : Fin k0_t2_loop.trips) (g : Fin 64) (hg : g.val = k.val) :
    tripL_k0_t2 (F := F) 𝒱 c bd i arg1 harg1 arg2 harg2 arg3 harg3 arg4 harg4 arg5 harg5 arg6 harg6 arg7 harg7 v81 w (harg7.unread z) k
      = [⟨Rect.unit (s := S64x256x256) (k0_off3 k) S1x256x256.size (k0_off3_inb k), k0_pay1 v81 w (slab z g)⟩] := by
  have h : k0_off3 k = ![g.val, 0, 0] := by rw [off3, hg]
  rw [← load_slab arg7 (harg7.unread z) z (harg7.read_unread z) g h (k0_off3_inb k)]
  unfold tripL_k0_t2 trip_k0_t2
  rfl

/-- The state of the first loop before trip `n`: the carried magnitudes, and pieces that are slabs of `midOf` and hold every slab
    before `n`. -/
theorem loop1_state (n : ℕ) (hn : n ≤ 64) :
    (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) n).1
        = amaxTo x0 x1 x2 x3 n
    ∧ (∀ p ∈ (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) n).2,
        ∀ y : p.1.shape.Idx, p.2 y = midOf x0 x1 x2 x3 (p.1.emb y))
    ∧ (∀ y : S64x256x256.Idx, (y (0 : Fin 3)).val < n →
        ∃ p ∈ (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) n).2,
          y ∈ p.1.set) := by
  induction n with
  | zero => exact ⟨rfl, fun p hp => absurd hp List.not_mem_nil, fun y hy => absurd hy (Nat.not_lt_zero _)⟩
  | succ n ih =>
    obtain ⟨ih1, ih2, ih3⟩ := ih (by omega)
    have hk : n < k0_t1_loop.trips := by rw [trips1]; omega
    have hs := st_k0_t1_succ (F := F) 𝒱 c bd i arg1 harg1 arg2 harg2 arg3 harg3 arg4 harg4 arg5 harg5 arg6 harg6 arg7 harg7 x1 (harg1.unread x0) (harg3.unread x2) (harg4.unread x3) (k0_pay2 (F := F)) ⟨n, hk⟩
    dsimp only at hs
    rw [trip1_pieces 𝒱 c bd i arg1 harg1 arg2 harg2 arg3 harg3 arg4 harg4 arg5 harg5 arg6 harg6 arg7 harg7 x0 x1 x2 x3 ⟨n, hk⟩ ⟨n, by omega⟩ rfl,
      trip1_value 𝒱 c bd i arg1 harg1 arg2 harg2 arg3 harg3 arg4 harg4 arg5 harg5 arg6 harg6 arg7 harg7 x0 x1 x2 x3 ⟨n, hk⟩ ⟨n, by omega⟩ rfl, ih1] at hs
    rw [hs]
    refine ⟨?_, ?_, ?_⟩
    · show _ = if h : n < 64 then _ else _
      rw [dif_pos (by omega)]
    · intro p hp
      rcases List.mem_append.mp hp with hp | hp
      · obtain rfl := List.mem_singleton.mp hp
        intro (y : S1x256x256.Idx)
        refine Eq.trans ?_ (congrArg (midOf x0 x1 x2 x3) (emb_slab ⟨n, by omega⟩ (off1 ⟨n, hk⟩) (k0_off1_inb ⟨n, hk⟩) y).symm)
        have hy : y = ix3 (0 : Fin 1) (y (1 : Fin 3)) (y (2 : Fin 3)) := by
          conv_lhs => rw [eq_ix3 y]
          congr 1
          exact Fin.ext (by have := (y (0 : Fin 3)).isLt; show (y (0 : Fin 3)).val = 0; have h : (y (0 : Fin 3)).val < 1 := this; omega)
        exact congrArg (k0_pay4 x1 (slab x0 ⟨n, _⟩) (slab x2 ⟨n, _⟩) (slabRow x3 ⟨n, _⟩)) hy
      · exact ih2 p hp
    · intro y hy
      by_cases hyn : (y (0 : Fin 3)).val < n
      · obtain ⟨p, hp, hm⟩ := ih3 y hyn
        exact ⟨p, List.mem_append_right _ hp, hm⟩
      · exact ⟨_, List.mem_append_left _ (List.mem_singleton.mpr rfl), mem_slab ⟨n, by omega⟩ (off1 ⟨n, hk⟩) (k0_off1_inb ⟨n, hk⟩) y (by show _ = n; omega)⟩

/-- After the first loop the scratch reads `midOf`, whatever it held. -/
theorem loop1_scratch (f : arg7.view.ty.Contents (Elt F)) :
    arg7.view.writes (Elt F) f (st_k0_t1 (F := F) 𝒱 c bd i arg1 harg1 arg2 harg2 arg3 harg3 arg4 harg4 arg5 harg5 arg6 harg6 arg7 harg7 x1 (harg1.unread x0) (harg3.unread x2) (harg4.unread x3) (k0_pay2 (F := F)) 64).2
      = harg7.unread (midOf x0 x1 x2 x3) := by
  obtain ⟨-, h2, h3⟩ := loop1_state 𝒱 c bd i arg1 harg1 arg2 harg2 arg3 harg3 arg4 harg4 arg5 harg5 arg6 harg6 arg7 harg7 x0 x1 x2 x3 64 le_rfl
  refine harg7.eq_unread (funext fun y => ?_)
  exact View.read_writes_apply_of_pieces arg7.view f (midOf x0 x1 x2 x3) _ h2 y (h3 y (y (0 : Fin 3)).isLt)

/-- The pieces of the second loop before trip `n`. -/
theorem loop2_state (n : ℕ) (hn : n ≤ 64) :
    (∀ p ∈ pb_k0_t2 (F := F) 𝒱 c bd i arg1 harg1 arg2 harg2 arg3 harg3 arg4 harg4 arg5 harg5 arg6 harg6 arg7 harg7 (negOf x0 x1 x2 x3) 127#32 (harg7.unread (midOf x0 x1 x2 x3)) n,
        ∀ y : p.1.shape.Idx, p.2 y = codesOf x0 x1 x2 x3 (p.1.emb y))
    ∧ (∀ y : S64x256x256.Idx, (y (0 : Fin 3)).val < n →
        ∃ p ∈ pb_k0_t2 (F := F) 𝒱 c bd i arg1 harg1 arg2 harg2 arg3 harg3 arg4 harg4 arg5 harg5 arg6 harg6 arg7 harg7 (negOf x0 x1 x2 x3) 127#32 (harg7.unread (midOf x0 x1 x2 x3)) n,
          y ∈ p.1.set) := by
  induction n with
  | zero => exact ⟨fun p hp => absurd hp List.not_mem_nil, fun y hy => absurd hy (Nat.not_lt_zero _)⟩
  | succ n ih =>
    obtain ⟨ih2, ih3⟩ := ih (by omega)
    have hk : n < k0_t2_loop.trips := by rw [trips2]; omega
    have hs := pb_k0_t2_succ (F := F) 𝒱 c bd i arg1 harg1 arg2 harg2 arg3 harg3 arg4 harg4 arg5 harg5 arg6 harg6 arg7 harg7 (negOf x0 x1 x2 x3) 127#32 (harg7.unread (midOf x0 x1 x2 x3)) ⟨n, hk⟩
    dsimp only at hs
    rw [trip2_pieces 𝒱 c bd i arg1 harg1 arg2 harg2 arg3 harg3 arg4 harg4 arg5 harg5 arg6 harg6 arg7 harg7 (negOf x0 x1 x2 x3) 127#32 (midOf x0 x1 x2 x3) ⟨n, hk⟩ ⟨n, by omega⟩ rfl] at hs
    rw [hs]
    refine ⟨?_, ?_⟩
    · intro p hp
      rcases List.mem_append.mp hp with hp | hp
      · obtain rfl := List.mem_singleton.mp hp
        intro (y : S1x256x256.Idx)
        refine Eq.trans ?_ (congrArg (codesOf x0 x1 x2 x3) (emb_slab ⟨n, by omega⟩ (off3 ⟨n, hk⟩) (k0_off3_inb ⟨n, hk⟩) y).symm)
        have hy : y = ix3 (0 : Fin 1) (y (1 : Fin 3)) (y (2 : Fin 3)) := by
          conv_lhs => rw [eq_ix3 y]
          congr 1
          exact Fin.ext (by have := (y (0 : Fin 3)).isLt; show (y (0 : Fin 3)).val = 0; have h : (y (0 : Fin 3)).val < 1 := this; omega)
        exact congrArg (k0_pay1 (negOf x0 x1 x2 x3) 127#32 (slab (midOf x0 x1 x2 x3) ⟨n, _⟩)) hy
      · exact ih2 p hp
    · intro y hy
      by_cases hyn : (y (0 : Fin 3)).val < n
      · obtain ⟨p, hp, hm⟩ := ih3 y hyn
        exact ⟨p, List.mem_append_right _ hp, hm⟩
      · exact ⟨_, List.mem_append_left _ (List.mem_singleton.mpr rfl), mem_slab ⟨n, by omega⟩ (off3 ⟨n, hk⟩) (k0_off3_inb ⟨n, hk⟩) y (by show _ = n; omega)⟩

/-- After the second loop the codes' buffer reads `codesOf`, whatever it held. -/
theorem loop2_codes (f : arg5.view.ty.Contents (Elt F)) :
    arg5.view.read (Elt F) (arg5.view.writes (Elt F) f (pb_k0_t2 (F := F) 𝒱 c bd i arg1 harg1 arg2 harg2 arg3 harg3 arg4 harg4 arg5 harg5 arg6 harg6 arg7 harg7 (negOf x0 x1 x2 x3) 127#32 (harg7.unread (midOf x0 x1 x2 x3)) 64))
      = codesOf x0 x1 x2 x3 := by
  obtain ⟨h2, h3⟩ := loop2_state 𝒱 c bd i arg1 harg1 arg2 harg2 arg3 harg3 arg4 harg4 arg5 harg5 arg6 harg6 arg7 harg7 x0 x1 x2 x3 64 le_rfl
  funext y
  exact View.read_writes_apply_of_pieces arg5.view f (codesOf x0 x1 x2 x3) _ h2 y (h3 y (y (0 : Fin 3)).isLt)

end Loops

/-! ## The body -/

/-- The body on whole buffers, the inputs' at `x0` … `x3`: it leaves `codesOf` and `scalesOf` of them in the outputs' buffers. -/
theorem body_run (c : Dev nD) (i : grid0.Coords) (arg1 : Memref sig .tc .vmem S64x256x256 .fp8e4m3) (harg1 : arg1.IsWhole) (arg2 : Memref sig .tc .vmem S256x1 .f32) (harg2 : arg2.IsWhole) (arg3 : Memref sig .tc .vmem S64x256x256 .fp8e4m3) (harg3 : arg3.IsWhole) (arg4 : Memref sig .tc .vmem S64x1x256 .f32) (harg4 : arg4.IsWhole) (arg5 : Memref sig .tc .vmem S64x256x256 .fp8e4m3) (harg5 : arg5.IsWhole) (arg6 : Memref sig .tc .vmem S256x1 .f32) (harg6 : arg6.IsWhole) (arg7 : Memref sig .tc .vmem S64x256x256 .f32) (harg7 : arg7.IsWhole)
    (x0 : Vec F S64x256x256 .fp8e4m3) (x1 : Vec F S256x1 .f32) (x2 : Vec F S64x256x256 .fp8e4m3) (x3 : Vec F S64x1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (codesOf x0 x1 x2 x3) ∗ owns (c : Thread nD τ) arg6 fullShare (scalesOf x0 x1 x2 x3) ∗ (∃ d, owns (c : Thread nD τ) arg7 fullShare d)) -∗ K ⟨⟩))
      ⊢ wp frame (wpE (defs₀ (F := F)) Variants.none c none) E (cc0_stage1 i arg1 harg1 arg2 harg2 arg3 harg3 arg4 harg4 arg5 harg5 arg6 harg6 arg7 harg7) K := by
  simp only [cc0_stage1_eq_skeleton]; unfold cc0_stage1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    have hx : View.readAt (Elt F) arg2.view (Rect.unit (s := S256x1) ![0, 0] S256x1.size inb_S256x1_S256x1_0_0).toLoadRect (harg2.unread x1) = x1 := by
      rw [View.readAt_full, harg2.read_unread]
    have h1 := (loop1_state Variants.none c none i arg1 harg1 arg2 harg2 arg3 harg3 arg4 harg4 arg5 harg5 arg6 harg6 arg7 harg7 x0 x1 x2 x3 64 le_rfl).1
    have h2 := loop1_scratch Variants.none c none i arg1 harg1 arg2 harg2 arg3 harg3 arg4 harg4 arg5 harg5 arg6 harg6 arg7 harg7 x0 x1 x2 x3 fs0
    have h3 := loop2_codes Variants.none c none i arg1 harg1 arg2 harg2 arg3 harg3 arg4 harg4 arg5 harg5 arg6 harg6 arg7 harg7 x0 x1 x2 x3 f4
    unfold body_run.sl.r_4 body_run.sl.r body_run.sl.r_1 body_run.sl.r_2 body_run.sl.r_3
    rw [hx, show Scf.trips k0_t1_loop.lb k0_t1_loop.ub k0_t1_loop.st = 64 from trips1, h1, h2]
    exact h3
  isplitl [H5]
  · iexists _; isplitr; swap; · iexact H5
    ipureintro
    have hx : View.readAt (Elt F) arg2.view (Rect.unit (s := S256x1) ![0, 0] S256x1.size inb_S256x1_S256x1_0_0).toLoadRect (harg2.unread x1) = x1 := by
      rw [View.readAt_full, harg2.read_unread]
    have h1 := (loop1_state Variants.none c none i arg1 harg1 arg2 harg2 arg3 harg3 arg4 harg4 arg5 harg5 arg6 harg6 arg7 harg7 x0 x1 x2 x3 64 le_rfl).1
    unfold body_run.sl.H5_1 body_run.sl.r body_run.sl.r_1 body_run.sl.r_2 body_run.sl.r_3
    rw [hx, show Scf.trips k0_t1_loop.lb k0_t1_loop.ub k0_t1_loop.st = 64 from trips1, h1]
    exact View.read_writes_full arg6.view _ inb_S256x1_S256x1_0_0 _ []
  iexists _, _; isplitr; swap; · iexact HS0
  ipureintro; rfl

end Cert.KernelIdeal.Stage1
-- ==== Proof.IdealRun.lean ====
/- The program from launch to exit: the two kernels' proof data, the contents of every buffer at each boundary of `main` (`W0` … `W7`),
   and the run theorem `run`, whose corollary `frame` says that `main` stops with its arguments unchanged. The second kernel and the
   chaining follow the pattern every pipelined program has here; the first kernel's body is `Stage1.body_run`, because its second loop reads
   a scratch that its first loop fills, which needs the loops' closed forms. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealStage1
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_stage1` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 4, through which its contents are stated (`View.read_writes_of_cover`: the
    choice does not matter). -/
abbrev VO0_4 : View sig .tc .vmem S64x256x256 .fp8e4m3 := (Memref.whole cc0_stg4_0 : Memref sig .tc .vmem S64x256x256 .fp8e4m3).view
/-- One staging buffer of output window 5, through which its contents are stated (`View.read_writes_of_cover`: the
    choice does not matter). -/
abbrev VO0_5 : View sig .tc .vmem S256x1 .f32 := (Memref.whole cc0_stg5_0 : Memref sig .tc .vmem S256x1 .f32).view
/-- Each window's current staging memref at point `t`, spelled as the pipeline passes it (`bodyAt0`), and its wholeness. -/
abbrev ms0_0 (t : Fin cfg0.N) : Memref sig .tc .vmem S64x256x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S64x256x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg3_0), ((c : Thread nD τ).loc cc1_stg3_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-! ## What the outputs hold after each point -/

/-- What the outputs' staging buffers hold after the body at point `t` (as a tuple, in window order): the run's contents at
    the point's memrefs and input blocks. -/
def outsAt0 (c : Dev nD) (t : Fin cfg0.N) : Vec F S64x256x256 .fp8e4m3 × Vec F S256x1 .f32 :=
  (Stage1.codesOf (iblk0 V c 0 t) (iblk0 V c 1 t) (iblk0 V c 2 t) (iblk0 V c 3 t), Stage1.scalesOf (iblk0 V c 0 t) (iblk0 V c 1 t) (iblk0 V c 2 t) (iblk0 V c 3 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem after0_5 (c : Dev nD) (t : Fin cfg0.N) : (dat0 V c).after 5 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  (try dsimp only)
  iintro ⟨⟨⟨HS0, HR1, HR2, HR3, HR4, HR5, HR6, HR7, HR8⟩, Hg⟩, Ho, ⟨%d0, H0⟩, ⟨%d1, H1⟩, ⟨%d2, H2⟩, ⟨%d3, H3⟩, ⟨%d4, H4⟩, ⟨%d5, H5⟩⟩
  iapply (Stage1.body_run c (grid0.coords t) _ _ _ _ _ _ _ _ _ _ _ _ _ _ (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, H4, H5, HS0⟩
  isplitl [HS0 HR1 HR2 HR3 HR4 HR5 HR6 HR7 HR8 Hg]
  · isplitl [HS0 HR1 HR2 HR3 HR4 HR5 HR6 HR7 HR8]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HR8
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_stage2` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S1024x256 .bf16 := (Memref.whole cc1_stg4_0 : Memref sig .tc .vmem S1024x256 .bf16).view
/-- Each window's current staging memref at point `t`, spelled as the pipeline passes it (`bodyAt1`), and its wholeness. -/
abbrev ms1_0 (t : Fin cfg1.N) : Memref sig .tc .vmem S1x1024x256 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x256x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .bf16 := win1_4.stage (cfg1.slots t 4)
abbrev hs1_4 (t : Fin cfg1.N) : (ms1_4 t).IsWhole := hstage1_4 ((cfg1.slots t 4).cast nbuf1_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1x1024x256 .fp8e4m3) (harg2 : arg2.IsWhole) (arg3 : Memref sig .tc .vmem S1024x1 .f32) (harg3 : arg3.IsWhole) (arg4 : Memref sig .tc .vmem S64x256x256 .fp8e4m3) (harg4 : arg4.IsWhole) (arg5 : Memref sig .tc .smem S64 .f32) (harg5 : arg5.IsWhole) (arg6 : Memref sig .tc .vmem S1024x256 .bf16) (harg6 : arg6.IsWhole)
    (x0 : Vec F S1x1024x256 .fp8e4m3) (x1 : Vec F S1024x1 .f32) (x2 : Vec F S64x256x256 .fp8e4m3) (x3 : Vec F S64 .f32) :
    { L4 : List (View.Piece (Elt F) S1024x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1_stage2 i arg2 harg2 arg3 harg3 arg4 harg4 arg5 harg5 arg6 harg6) K } := by
  refine ⟨?_, fun E K => ?run⟩
  case run =>
    simp only [cc1_stage2_eq_skeleton]; unfold cc1_stage2_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S1024x256`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1x1024x256 .fp8e4m3) (harg2 : arg2.IsWhole) (arg3 : Memref sig .tc .vmem S1024x1 .f32) (harg3 : arg3.IsWhole) (arg4 : Memref sig .tc .vmem S64x256x256 .fp8e4m3) (harg4 : arg4.IsWhole) (arg5 : Memref sig .tc .smem S64 .f32) (harg5 : arg5.IsWhole) (arg6 : Memref sig .tc .vmem S1024x256 .bf16) (harg6 : arg6.IsWhole)
    (x0 : Vec F S1x1024x256 .fp8e4m3) (x1 : Vec F S1024x1 .f32) (x2 : Vec F S64x256x256 .fp8e4m3) (x3 : Vec F S64 .f32) (y : S1024x256.Idx) :
    ∃ pc ∈ (kernelRun1_A c i arg2 harg2 arg3 harg3 arg4 harg4 arg5 harg5 arg6 harg6 x0 x1 x2 x3).1, y ∈ pc.1.set :=
  View.cover_of_tiledL (kernelRun1_A c i arg2 harg2 arg3 harg3 arg4 harg4 arg5 harg5 arg6 harg6 x0 x1 x2 x3).1 S1024x256.size (by sl_kernel_rfl) y

/-- What the run leaves in output 4's staging buffer: its pieces read back over junk. -/
def out1_A_4 (c : Dev nD) (i : grid1.Coords) (arg2 : Memref sig .tc .vmem S1x1024x256 .fp8e4m3) (harg2 : arg2.IsWhole) (arg3 : Memref sig .tc .vmem S1024x1 .f32) (harg3 : arg3.IsWhole) (arg4 : Memref sig .tc .vmem S64x256x256 .fp8e4m3) (harg4 : arg4.IsWhole) (arg5 : Memref sig .tc .smem S64 .f32) (harg5 : arg5.IsWhole) (arg6 : Memref sig .tc .vmem S1024x256 .bf16) (harg6 : arg6.IsWhole)
    (x0 : Vec F S1x1024x256 .fp8e4m3) (x1 : Vec F S1024x1 .f32) (x2 : Vec F S64x256x256 .fp8e4m3) (x3 : Vec F S64 .f32) : Vec F S1024x256 .bf16 :=
  VO1_4.read (Elt F) (VO1_4.writes (Elt F) VO1_4.junk (kernelRun1_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt1 (c : Dev nD) (t : Fin cfg1.N) : Vec F S1024x256 .bf16 :=
  out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_c, main_v7, main_v8, main_v9, main_v10, main_v11, main_c_0, main_v12]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_v13]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v14, main_v15, main_v16, main_v17, main_v18]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v20, main_v21, main_v22, main_v23, main_v24]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v26, main_v27]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters, every weakly fair execution of `main` on the TensorCores terminates without a fault, with
    every buffer of the TensorCore that is not scoped at its contents `W7` and every semaphore counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- `main` stops with its arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c),
     (h.1 c _ (mem_uc main_arg4 (by decide))).trans (W7_main_arg4 m ρ c),
     (h.1 c _ (mem_uc main_arg5 (by decide))).trans (W7_main_arg5 m ρ c)⟩, h.2⟩) (run m ρ)

end Cert.KernelIdeal.Run

end
-- ==== Proof.Exponent.lean ====
/- The power-of-two scale of a row, on the extended reals. The kernel finds the exponent of `v` by bisection over the exponent
   field of a 32-bit float word; the reference takes the least `k` with `v < 2 ^ k`. Both are shown to be one integer `e`, and
   the two readings of `2 ^ e` and `2 ^ (-e)` (a word built by a shift, a power) to agree. Nothing here mentions a program. -/
module

public import Idealize.ShloMosaic.Lib.Pipeline.ValueKit
public import Idealize.ShloMosaic.Lib.Pointwise

@[expose] public section

set_option maxRecDepth 16384

noncomputable section

namespace Cert.Exponent

open Idealize.ShloMosaic

/-! ## The constants of the two programs -/

theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]
theorem ofBits_two : Ideal.ofBits .f32 0x40000000#32 = ((2 : ℝ) : EReal) := by
  simp [Ideal.ofBits, Ideal.ieee]
  rw [← EReal.coe_mul]
  exact congrArg _ (by norm_num)
theorem ofBits_120 : Ideal.ofBits .f32 0x42F00000#32 = ((120 : ℝ) : EReal) := by
  simp [Ideal.ofBits, Ideal.ieee]
  rw [← EReal.coe_mul]
  exact congrArg _ (by norm_num)
theorem ofBits_126 : Ideal.ofBits .f32 0x42FC0000#32 = ((126 : ℝ) : EReal) := by
  simp [Ideal.ofBits, Ideal.ieee]
  rw [← EReal.coe_mul]
  exact congrArg _ (by norm_num)
theorem ofBits_inv448_nonneg : 0 ≤ Ideal.ofBits .f32 0x3B124925#32 := by
  simp [Ideal.ofBits, Ideal.ieee]
  rw [← EReal.coe_mul]
  exact EReal.coe_nonneg.mpr (by norm_num)

/-- The value of the float word whose exponent field is `n` and whose other bits are zero. -/
def fieldValue (n : ℕ) : EReal :=
  if n = 0 then 0 else if n = 255 then ⊤ else (((2 : ℝ) ^ ((n : ℤ) - 127) : ℝ) : EReal)

theorem fields_of_shift : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by decide +kernel

/-- A word `n << 23` reads as `fieldValue n`. -/
theorem ofBits_shift (n : ℕ) (hn : n < 256) :
    Ideal.ofBits .f32 (IntOp.shli .vector (BitVec.ofNat 32 n) 23#32) = fieldValue n := by
  obtain ⟨h1, h2, h3⟩ := fields_of_shift ⟨n, hn⟩
  dsimp only at h1 h2 h3
  unfold Ideal.ofBits Ideal.ieee fieldValue
  simp only [h1, h2, h3]
  by_cases h255 : n = 255
  · subst h255; simp
  · by_cases h0 : n = 0
    · subst h0; simp
    · have e8 : (2 ^ 8 - 1 : ℕ) = 255 := by norm_num
      simp only [e8, h255, h0, if_false, Bool.false_eq_true, one_mul, Nat.add_zero]
      refine congrArg (fun r : ℝ => (r : EReal)) ?_
      have e23 : ((2 ^ 23 : ℕ) : ℝ) = (2 : ℝ) ^ (23 : ℤ) := by norm_num
      rw [e23, ← zpow_add₀ (by norm_num : (2 : ℝ) ≠ 0)]
      refine congrArg (fun z : ℤ => (2 : ℝ) ^ z) ?_
      norm_num

theorem fieldValue_zero : fieldValue 0 = 0 := by simp [fieldValue]

theorem fieldValue_succ (n : ℕ) (hn : n ≤ 253) : fieldValue (n + 1) = (((2 : ℝ) ^ ((n : ℤ) - 126) : ℝ) : EReal) := by
  unfold fieldValue
  rw [if_neg (by omega), if_neg (by omega)]
  congr 2
  push_cast
  ring

theorem fieldValue_mono {m n : ℕ} (h : m ≤ n) (hn : n ≤ 255) : fieldValue m ≤ fieldValue n := by
  unfold fieldValue
  by_cases hm : m = 0
  · subst hm
    rw [if_pos rfl]
    split_ifs
    · exact le_rfl
    · exact le_top
    · exact EReal.coe_nonneg.mpr (by positivity)
  · rw [if_neg hm, if_neg (show ¬ n = 0 by omega)]
    by_cases h2 : n = 255
    · rw [if_pos h2]; exact le_top
    · rw [if_neg h2, if_neg (show ¬ m = 255 by omega)]
      exact EReal.coe_le_coe_iff.mpr (zpow_le_zpow_right₀ (by norm_num) (by omega))

/-- One step of the bisection: take the bit `b` into the field unless the word would exceed `v`. -/
def step (v : EReal) (b f : BitVec 32) : BitVec 32 :=
  Scalar.select (Ideal.cmp .olt v (Ideal.ofBits .f32 (IntOp.shli .vector (IntOp.addi f b) 23#32))) f (IntOp.addi f b)

/-- The exponent field of `v` as the kernel finds it. -/
def field (v : EReal) : BitVec 32 :=
  step v 1#32 (step v 2#32 (step v 4#32 (step v 8#32 (step v 16#32 (step v 32#32 (step v 64#32 (step v 128#32 0#32)))))))

/-- What holds of the field before the bit `b` is tried: a multiple of `2 * b` below 256, its word at most `v`, the next one above. -/
def Inv (v : EReal) (b : ℕ) (f : BitVec 32) : Prop :=
  ∃ n : ℕ, f = BitVec.ofNat 32 n ∧ n + b ≤ 256 ∧ fieldValue n ≤ v ∧ (n + b = 256 ∨ v < fieldValue (n + b))

theorem Inv.step {v : EReal} {b : ℕ} {f : BitVec 32} (hb : 0 < b) (h : Inv v (b + b) f) : Inv v b (step v (BitVec.ofNat 32 b) f) := by
  obtain ⟨n, rfl, hn, hle, hlt⟩ := h
  have hadd : IntOp.addi (BitVec.ofNat 32 n) (BitVec.ofNat 32 b) = BitVec.ofNat 32 (n + b) := by
    unfold IntOp.addi; exact (BitVec.ofNat_add n b).symm
  unfold Exponent.step
  rw [hadd, ofBits_shift _ (by omega)]
  by_cases hv : v < fieldValue (n + b)
  · refine ⟨n, ?_, by omega, hle, Or.inr hv⟩
    simp [Scalar.select, Ideal.cmp, hv]
  · refine ⟨n + b, ?_, by omega, not_lt.mp hv, ?_⟩
    · simp [Scalar.select, Ideal.cmp, hv]
    · rcases hlt with h | h
      · left; omega
      · right; rw [add_assoc]; exact h

/-- The bisection ends at the greatest word at most `v`. -/
theorem field_spec {v : EReal} (hv : 0 ≤ v) : Inv v 1 (field v) := by
  have h0 : Inv v (128 + 128) 0#32 := ⟨0, rfl, by omega, by rw [fieldValue_zero]; exact hv, Or.inl rfl⟩
  have h1 := h0.step (by omega)
  have h2 := Inv.step (b := 64) (by omega) h1
  have h3 := Inv.step (b := 32) (by omega) h2
  have h4 := Inv.step (b := 16) (by omega) h3
  have h5 := Inv.step (b := 8) (by omega) h4
  have h6 := Inv.step (b := 4) (by omega) h5
  have h7 := Inv.step (b := 2) (by omega) h6
  exact Inv.step (b := 1) (by omega) h7

/-- The kernel's exponent word of a row whose largest magnitude is `a`, `v` being `a` divided by 448. -/
def exponentWord (a v : EReal) : BitVec 32 :=
  Scalar.select (Ideal.cmp .oeq a 0) 0#32 (IntOp.subi (IntOp.minsi (field v) 246#32) 126#32)

/-- The kernel's scale, from the exponent word. -/
def scaleOf (e : BitVec 32) : EReal := Ideal.ofBits .f32 (IntOp.shli .vector (IntOp.addi e 127#32) 23#32)

/-- The reference's candidate exponent number `k`. -/
def candidate (k : ℕ) : EReal := (((k : ℤ) - 126 : ℤ) : ℝ)

/-- The reference's exponent: the least candidate above `v`, 120 if there is none, 0 for a row of zeros. -/
def exponentReal (a v : EReal) : EReal :=
  if a = 0 then 0
  else Finset.univ.fold min ⊤ fun k : Fin 247 => if v < Ideal.pow (2 : ℝ) (candidate k.val) then candidate k.val else ((120 : ℝ) : EReal)

theorem pow_candidate (e : ℤ) : Ideal.pow ((2 : ℝ) : EReal) (((e : ℝ)) : EReal) = (((2 : ℝ) ^ e : ℝ) : EReal) := by
  show (((Real.rpow 2 (e : ℝ)) : ℝ) : EReal) = _
  congr 1
  exact Real.rpow_intCast 2 e

theorem shift_words : ∀ n : Fin 247,
    IntOp.subi (IntOp.minsi (BitVec.ofNat 32 n.val) 246#32) 126#32 = BitVec.ofInt 32 ((n.val : ℤ) - 126) := by decide +kernel

theorem clamp_words : ∀ n : Fin 256, 246 ≤ n.val →
    IntOp.subi (IntOp.minsi (BitVec.ofNat 32 n.val) 246#32) 126#32 = BitVec.ofInt 32 120 := by decide +kernel

theorem scale_words : ∀ n : Fin 247,
    IntOp.addi (BitVec.ofInt 32 ((n.val : ℤ) - 126)) 127#32 = BitVec.ofNat 32 (n.val + 1)
      ∧ IntOp.addi (IntOp.subi 0#32 (BitVec.ofInt 32 ((n.val : ℤ) - 126))) 127#32 = BitVec.ofNat 32 (253 - n.val) := by decide +kernel

theorem fold_min_eq {n : ℕ} (g : Fin n → EReal) (m : EReal) (hle : ∀ k, m ≤ g k) (hex : ∃ k, g k = m) :
    Finset.univ.fold min ⊤ g = m := by
  apply le_antisymm
  · obtain ⟨k, hk⟩ := hex
    exact (Finset.fold_min_le _).mpr (Or.inr ⟨k, Finset.mem_univ _, hk.le⟩)
  · exact (Finset.le_fold_min _).mpr ⟨le_top, fun k _ => hle k⟩

/-- The two exponents are one integer, in the range of normal scales. -/
theorem exponents_agree {a v : EReal} (hv : 0 ≤ v) :
    ∃ m : Fin 247, exponentWord a v = BitVec.ofInt 32 ((m.val : ℤ) - 126) ∧ exponentReal a v = candidate m.val := by
  by_cases ha : a = 0
  · refine ⟨126, ?_, ?_⟩
    · simp [exponentWord, Scalar.select, Ideal.cmp, ha]
    · simp [exponentReal, ha, candidate]
  obtain ⟨n, hf, hn, hle, hlt⟩ := field_spec hv
  have hn' : n < 256 := by omega
  have hw : exponentWord a v = IntOp.subi (IntOp.minsi (BitVec.ofNat 32 n) 246#32) 126#32 := by
    simp [exponentWord, Scalar.select, Ideal.cmp, ha, hf]
  have hp : ∀ k : Fin 247, Ideal.pow ((2 : ℝ) : EReal) (candidate k.val) = fieldValue (k.val + 1) := fun k => by
    rw [fieldValue_succ _ (by omega)]; exact pow_candidate _
  have hc : ∀ {i j : ℕ}, i ≤ j → candidate i ≤ candidate j := fun {i j} hij =>
    EReal.coe_le_coe_iff.mpr (Int.cast_le.mpr (by omega))
  have h120 : candidate 246 = ((120 : ℝ) : EReal) := by unfold candidate; norm_num
  by_cases h246 : 246 ≤ n
  · refine ⟨246, ?_, ?_⟩
    · rw [hw, clamp_words ⟨n, hn'⟩ h246]; rfl
    · unfold exponentReal
      rw [if_neg ha]
      show _ = candidate 246
      have hk : ∀ k : Fin 247, k.val < n → ¬ v < fieldValue (k.val + 1) := fun k hk =>
        not_lt.mpr ((fieldValue_mono (by omega) (by omega)).trans hle)
      refine fold_min_eq _ _ (fun k => ?_) ⟨246, ?_⟩
      · rw [hp]
        by_cases hkn : k.val < n
        · rw [if_neg (hk k hkn), h120]
        · have : k.val = 246 := by omega
          rw [this]; split_ifs
          · exact le_rfl
          · exact h120.le
      · rw [hp]
        show (if _ then candidate 246 else _) = _
        split_ifs
        · rfl
        · exact h120.symm
  · have hn6 : n < 247 := by omega
    have hlt' : v < fieldValue (n + 1) := by rcases hlt with h | h; omega; exact h
    refine ⟨⟨n, hn6⟩, ?_, ?_⟩
    · rw [hw]; exact shift_words ⟨n, hn6⟩
    · unfold exponentReal
      rw [if_neg ha]
      refine fold_min_eq _ _ (fun k => ?_) ⟨⟨n, hn6⟩, ?_⟩
      · rw [hp]
        by_cases hkn : k.val < n
        · rw [if_neg (not_lt.mpr ((fieldValue_mono (by omega) (by omega)).trans hle)), ← h120]
          exact hc (by show n ≤ 246; omega)
        · split_ifs
          · exact hc (by show n ≤ k.val; omega)
          · rw [← h120]; exact hc (by show n ≤ 246; omega)
      · rw [hp, if_pos hlt']

/-- The kernel's scale is two to the reference's exponent. -/
theorem scale_agree {a v : EReal} (hv : 0 ≤ v) :
    scaleOf (exponentWord a v) = Ideal.pow ((2 : ℝ) : EReal) (exponentReal a v) := by
  obtain ⟨m, hw, hr⟩ := exponents_agree (a := a) hv
  rw [hw, hr, scaleOf, (scale_words m).1, ofBits_shift _ (by omega), fieldValue_succ _ (by omega)]
  exact (pow_candidate _).symm

/-- The kernel's inverse scale is two to the opposite of the reference's exponent. -/
theorem inverse_agree {a v : EReal} (hv : 0 ≤ v) :
    scaleOf (IntOp.subi 0#32 (exponentWord a v)) = Ideal.pow ((2 : ℝ) : EReal) (0 - exponentReal a v) := by
  obtain ⟨m, hw, hr⟩ := exponents_agree (a := a) hv
  have h253 : 253 - m.val = (252 - m.val) + 1 := by omega
  have hneg : (0 : EReal) - candidate m.val = ((((126 - m.val : ℤ) : ℤ) : ℝ) : EReal) := by
    unfold candidate
    rw [zero_sub, ← EReal.coe_neg]
    congr 1
    push_cast
    ring
  rw [hw, hr, scaleOf, (scale_words m).2, h253, ofBits_shift _ (by omega), fieldValue_succ _ (by omega), hneg, pow_candidate]
  refine congrArg (fun z : ℤ => (((2 : ℝ) ^ z : ℝ) : EReal)) ?_
  omega

end Cert.Exponent
-- ==== Proof.IdealStage1Value.lean ====
/- The first kernel's body at exact arithmetic, at an index: the product it stores in the scratch, the largest magnitude of a row, the scale
   and the codes. -/
module

public import proofs.«01_k».proof.Proof.IdealStage1
public import proofs.«01_k».proof.Proof.Exponent
public import Idealize.ShloMosaic.Lib.Pointwise

@[expose] public section

set_option maxRecDepth 16384

noncomputable section

namespace Cert.KernelIdeal.Stage1

open Cert.KernelIdeal Cert.KernelIdeal.Gen
open Idealize.ShloMosaic Idealize.ShloMosaic.TcCoe
open Idealize.SL.Sem

variable (x0 : FVec Ideal S64x256x256 .fp8e4m3) (x1 : FVec Ideal S256x1 .f32) (x2 : FVec Ideal S64x256x256 .fp8e4m3) (x3 : FVec Ideal S64x1x256 .f32)

/-- The scaled product of slab `g` at row `r`, lane `q`. -/
def prodAt (g : Fin 64) (r q : Fin 256) : EReal :=
  (∑ k : Fin 256, x0 (ix3 g r k) * x2 (ix3 g k q)) * x1 (ix2 r 0) * x3 (ix3 g 0 q)

theorem slab_at {α : Type} (x : S64x256x256.Idx → α) (g : Fin 64) (a : Fin 1) (r q : Fin 256) : slab x g (ix3 a r q) = x (ix3 g r q) := rfl
theorem slabRow_at {α : Type} (x : S64x1x256.Idx → α) (g : Fin 64) (a : Fin 1) (r : Fin 1) (q : Fin 256) : slabRow x g (ix3 a r q) = x (ix3 g r q) := rfl

theorem pay3_at (u : FVec Ideal S1x256x256 .fp8e4m3) (v : FVec Ideal S1x256x256 .fp8e4m3) (w : FVec Ideal S1x1x256 .f32) (r q : Fin 256) :
    k0_pay3 (F := Ideal) x1 u v w (ix2 r q) = (∑ k : Fin 256, u (ix3 0 r k) * v (ix3 0 k q)) * x1 (ix2 r 0) * w (ix3 0 0 q) := by
  pointwise [k0_pay3]

theorem midOf_at (g : Fin 64) (r q : Fin 256) : midOf (F := Ideal) x0 x1 x2 x3 (ix3 g r q) = prodAt x0 x1 x2 x3 g r q := by
  show k0_pay4 (F := Ideal) x1 (slab x0 g) (slab x2 g) (slabRow x3 g) (ix3 0 r q) = _
  have h := pay3_at x1 (slab x0 g) (slab x2 g) (slabRow x3 g) r q
  simp only [slab_at, slabRow_at] at h
  rw [prodAt, ← h]
  pointwise [k0_pay4]

theorem amaxTo_succ_at (n : ℕ) (hn : n < 64) (r q : Fin 256) :
    amaxTo (F := Ideal) x0 x1 x2 x3 (n + 1) (ix2 r q)
      = max (amaxTo (F := Ideal) x0 x1 x2 x3 n (ix2 r q)) (max (prodAt x0 x1 x2 x3 ⟨n, hn⟩ r q) (-prodAt x0 x1 x2 x3 ⟨n, hn⟩ r q)) := by
  rw [amaxTo, dif_pos hn]
  have h := pay3_at x1 (slab x0 ⟨n, hn⟩) (slab x2 ⟨n, hn⟩) (slabRow x3 ⟨n, hn⟩) r q
  simp only [slab_at, slabRow_at] at h
  simp only [prodAt]
  rw [← h]
  pointwise [k0_pay5]
  rfl

theorem pay6_at (z : FVec Ideal S256x256 .f32) (r : Fin 256) :
    k0_pay6 (F := Ideal) z (ix2 r 0) = Finset.univ.fold max ⊥ fun q : Fin 256 => z (ix2 r q) := by
  pointwise [k0_pay6]
  rw [show Ideal.ofBits .f32 0xFF800000#32 = (⊥ : EReal) from Cert.Exponent.ofBits_neg_inf]

theorem pay7_at (z : FVec Ideal S256x256 .f32) (r : Fin 256) :
    k0_pay7 (F := Ideal) z (ix2 r 0) = k0_pay6 (F := Ideal) z (ix2 r 0) * Ideal.ofBits .f32 0x3B124925#32 := rfl

/-- One step of the bisection, as the body computes it on a column. -/
theorem step_at (v : FVec Ideal S256x1 .f32) (f : IVec S256x1 32) (b : BitVec 32) (i : S256x1.Idx) :
    select (cmpf .olt v (bitcastToFloat (F := Ideal) .f32 (shli (addi f (broadcast S256x1 b)) (broadcast S256x1 23#32)))) f (addi f (broadcast S256x1 b)) i
      = Cert.Exponent.step (v i) b (f i) := rfl

open Cert.Exponent in
theorem pay8_at (z : FVec Ideal S256x256 .f32) (i : S256x1.Idx) :
    k0_pay8 (F := Ideal) z i
      = step (k0_pay7 (F := Ideal) z i) 16#32 (step (k0_pay7 (F := Ideal) z i) 32#32 (step (k0_pay7 (F := Ideal) z i) 64#32 (step (k0_pay7 (F := Ideal) z i) 128#32 0#32))) := by
  rw [show step (k0_pay7 (F := Ideal) z i) 128#32 0#32 = step (k0_pay7 (F := Ideal) z i) 128#32 ((broadcast S256x1 0#32 : IVec S256x1 32) i) from rfl]
  unfold k0_pay8
  simp only [← step_at]

open Cert.Exponent in
theorem pay10_at (a v : FVec Ideal S256x1 .f32) (f g : IVec S256x1 32) (i : S256x1.Idx) (hg : g i = IntOp.addi (f i) 8#32) :
    k0_pay10 (F := Ideal) a v f g i
      = Scalar.select (Ideal.cmp .oeq (a i) 0) 0#32 (IntOp.subi (IntOp.minsi (step (v i) 1#32 (step (v i) 2#32 (step (v i) 4#32 (step (v i) 8#32 (f i))))) 246#32) 126#32) := by
  have h0 : Ideal.ofBits .f32 0x00000000#32 = 0 := Ideal.ofBits_zero_f32
  have h8 : step (v i) 8#32 (f i) = select (cmpf .olt v (bitcastToFloat (F := Ideal) .f32 (shli g (broadcast S256x1 23#32)))) f g i := by
    unfold step
    rw [← hg]
    rfl
  rw [h8, ← h0]
  unfold k0_pay10
  simp only [← step_at]
  rfl

/-- The exponent word of row `r`. -/
theorem word_at (z : FVec Ideal S256x256 .f32) (r : Fin 256) :
    k0_pay10 (F := Ideal) (k0_pay6 z) (k0_pay7 z) (k0_pay8 z) (k0_pay9 z) (ix2 r 0)
      = Cert.Exponent.exponentWord (k0_pay6 (F := Ideal) z (ix2 r 0)) (k0_pay6 (F := Ideal) z (ix2 r 0) * Ideal.ofBits .f32 0x3B124925#32) := by
  rw [pay10_at _ _ _ _ _ rfl, pay8_at, pay7_at]
  rfl

theorem pay11_at (z : FVec Ideal S256x256 .f32) (r : Fin 256) :
    k0_pay11 (F := Ideal) (k0_pay6 z) (k0_pay7 z) (k0_pay8 z) (k0_pay9 z) (ix2 r 0)
      = Cert.Exponent.scaleOf (Cert.Exponent.exponentWord (k0_pay6 (F := Ideal) z (ix2 r 0)) (k0_pay6 (F := Ideal) z (ix2 r 0) * Ideal.ofBits .f32 0x3B124925#32)) := by
  rw [← word_at]
  rfl

theorem pay1_at (e : IVec S256x1 32) (z : FVec Ideal S1x256x256 .f32) (r q : Fin 256) :
    k0_pay1 (F := Ideal) e 127#32 z (ix3 0 r q)
      = min (Ideal.ofBits .f32 0x43E00000#32) (max (Ideal.ofBits .f32 0xC3E00000#32) (z (ix3 0 r q) * Cert.Exponent.scaleOf (e (ix2 r 0)))) := by
  pointwise [k0_pay1]
  rfl

theorem pay12_at (z : FVec Ideal S256x256 .f32) (r : Fin 256) :
    k0_pay12 (F := Ideal) (k0_pay6 z) (k0_pay7 z) (k0_pay8 z) (k0_pay9 z) (ix2 r 0)
      = IntOp.subi 0#32 (Cert.Exponent.exponentWord (k0_pay6 (F := Ideal) z (ix2 r 0)) (k0_pay6 (F := Ideal) z (ix2 r 0) * Ideal.ofBits .f32 0x3B124925#32)) := by
  rw [← word_at]
  rfl

end Cert.KernelIdeal.Stage1

end
-- ==== Proof.Spec.lean ====
/- The two-stage block product with a quantised middle, as functions of the six argument arrays over the extended reals, token by token.
   Both programs' results are shown to be these functions. A token `t < 8192` is row `t % 4096` of batch `t / 4096`. -/
module

public import proofs.«01_k».proof.Proof.Exponent
public import Idealize.ShloMosaic.Lib.Pointwise

@[expose] public section

set_option maxRecDepth 16384

noncomputable section

namespace Cert.Spec

open Idealize.ShloMosaic

section

variable (X : (⟨3, ![2, 4096, 16384]⟩ : Shape).Idx → EReal) (S : (⟨2, ![2, 4096]⟩ : Shape).Idx → EReal)
variable (L : (⟨3, ![256, 64, 64]⟩ : Shape).Idx → EReal) (LS : (⟨1, ![256]⟩ : Shape).Idx → EReal)
variable (R : (⟨3, ![64, 256, 256]⟩ : Shape).Idx → EReal) (RS : (⟨1, ![64]⟩ : Shape).Idx → EReal)

/-- The code of token `t` at position `j` of block `l`. -/
def xAt (t : Fin 8192) (l : Fin 64) (j : Fin 256) : EReal :=
  X (ix3 (⟨t.val / 4096, by omega⟩ : Fin 2) (⟨t.val % 4096, by omega⟩ : Fin 4096) (⟨l.val * 256 + j.val, by omega⟩ : Fin 16384))

/-- The scale of token `t`. -/
def sAt (t : Fin 8192) : EReal := S (ix2 (⟨t.val / 4096, by omega⟩ : Fin 2) (⟨t.val % 4096, by omega⟩ : Fin 4096))

/-- The first product, scaled. -/
def w (t : Fin 8192) (j : Fin 256) (k : Fin 64) : EReal :=
  (∑ l : Fin 64, xAt X t l j * L (ix3 j k l)) * sAt S t * LS (ix1 j)

/-- The largest magnitude of token `t`'s first product. -/
def amax (t : Fin 8192) : EReal :=
  Finset.univ.sup fun p : Fin 256 × Fin 64 => max (w X S L LS t p.1 p.2) (-w X S L LS t p.1 p.2)

/-- The exponent of token `t`'s scale. -/
def expo (t : Fin 8192) : EReal :=
  Exponent.exponentReal (amax X S L LS t) (amax X S L LS t * Ideal.ofBits .f32 0x3B124925#32)

/-- The power-of-two scale of token `t`. -/
def scale (t : Fin 8192) : EReal := Ideal.pow ((2 : ℝ) : EReal) (expo X S L LS t)

/-- The quantised middle: the first product by the inverse scale, clipped to the codes' range. -/
def code (t : Fin 8192) (j : Fin 256) (k : Fin 64) : EReal :=
  min (Ideal.ofBits .f32 0x43E00000#32) (max (Ideal.ofBits .f32 0xC3E00000#32)
    (w X S L LS t j k * Ideal.pow ((2 : ℝ) : EReal) (0 - expo X S L LS t)))

/-- The second product, scaled. -/
def y (t : Fin 8192) (k : Fin 64) (i : Fin 256) : EReal :=
  (∑ j : Fin 256, code X S L LS t j k * R (ix3 k i j)) * scale X S L LS t * RS (ix1 k)

theorem le_abs_nonneg (v : EReal) : 0 ≤ max v (-v) := by
  rcases le_total 0 v with h | h
  · exact le_max_of_le_left h
  · exact le_max_of_le_right (EReal.neg_nonneg.mpr h)

theorem le_amax (t : Fin 8192) (j : Fin 256) (k : Fin 64) : max (w X S L LS t j k) (-w X S L LS t j k) ≤ amax X S L LS t := by
  unfold amax
  generalize w X S L LS t = u
  exact Finset.le_sup (f := fun p : Fin 256 × Fin 64 => max (u p.1 p.2) (-u p.1 p.2)) (Finset.mem_univ (j, k))

theorem amax_nonneg (t : Fin 8192) : 0 ≤ amax X S L LS t :=
  (le_abs_nonneg _).trans (le_amax X S L LS t 0 0)

theorem threshold_nonneg (t : Fin 8192) : 0 ≤ amax X S L LS t * Ideal.ofBits .f32 0x3B124925#32 :=
  mul_nonneg (amax_nonneg X S L LS t) Exponent.ofBits_inv448_nonneg

theorem code_congr {t t' : Fin 8192} {j j' : Fin 256} {k k' : Fin 64} (ht : t.val = t'.val) (hj : j.val = j'.val) (hk : k.val = k'.val) :
    code X S L LS t j k = code X S L LS t' j' k' := by
  rw [Fin.ext ht, Fin.ext hj, Fin.ext hk]

theorem scale_congr {t t' : Fin 8192} (ht : t.val = t'.val) : scale X S L LS t = scale X S L LS t' := by
  rw [Fin.ext ht]

theorem y_congr {t t' : Fin 8192} {k k' : Fin 64} {i i' : Fin 256} (ht : t.val = t'.val) (hk : k.val = k'.val) (hi : i.val = i'.val) :
    y X S L LS R RS t k i = y X S L LS R RS t' k' i' := by
  rw [Fin.ext ht, Fin.ext hk, Fin.ext hi]

/-- The token of row `s` of batch `b`. -/
def token (b : Fin 2) (s : Fin 4096) : Fin 8192 := ⟨b.val * 4096 + s.val, by omega⟩

/-- The first result: position `i` of block `k` of a token is at `256 k + i`. -/
def out1 : (⟨3, ![2, 4096, 16384]⟩ : Shape).Idx → EReal := fun p =>
  y X S L LS R RS (token (p 0) (p 1)) (⟨(p 2).val / 256, by have h : (p 2).val < 16384 := (p 2).isLt; omega⟩ : Fin 64) (⟨(p 2).val % 256, by omega⟩ : Fin 256)

/-- The second result: the codes of the quantised middle. -/
def out2 : (⟨4, ![2, 4096, 256, 64]⟩ : Shape).Idx → EReal := fun p => code X S L LS (token (p 0) (p 1)) (p 2) (p 3)

/-- The third result: its scales. -/
def out3 : (⟨2, ![2, 4096]⟩ : Shape).Idx → EReal := fun p => scale X S L LS (token (p 0) (p 1))

end

end Cert.Spec

end
-- ==== Proof.IdealHost.lean ====
/- The operands of the first kernel, as the host prepares them: the codes regrouped by four blocks, the first matrices as block-diagonal
   matrices of four, and their scales repeated per lane, each read at an index of the argument arrays. -/
module

public import proofs.«01_k».proof.Proof.IdealRun
public import proofs.«01_k».proof.Proof.Spec
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

namespace Cert.KernelIdeal.Host

open Cert.KernelIdeal Cert.KernelIdeal.Gen Cert.KernelIdeal.Run
open Idealize.ShloMosaic Idealize.ShloMosaic.TcCoe
open Idealize.SL.Sem

/-! ## The host's terms at an index -/

theorem xg_at (x : FVec Ideal S2x4096x16384 .fp8e4m3) (g : Fin 64) (n : Fin 8192) (q : Fin 256) :
    shapeCast S64x8192x256 (transpose S64x8192x4x64 [2, 0, 3, 1] (shapeCast S8192x64x64x4 x shapeCasts_S2x4096x16384_S8192x64x64x4) transposes_S8192x64x64x4_S64x8192x4x64_2_0_3_1) shapeCasts_S64x8192x4x64_S64x8192x256 (ix3 g n q)
      = Cert.Spec.xAt x n (⟨q.val % 64, by omega⟩ : Fin 64) (⟨g.val * 4 + q.val / 64, by omega⟩ : Fin 256) := by
  pointwise
  unfold Cert.Spec.xAt
  refine congrArg x (congrArg (ix3 _ _) (Fin.ext ?_))
  show q.val % 64 * 256 + g.val * 4 + q.val / 64 = q.val % 64 * 256 + (g.val * 4 + q.val / 64)
  omega

theorem ls_at (x : FVec Ideal S256 .f32) (g : Fin 64) (q : Fin 256) :
    shapeCast S64x1x256 (broadcastInDim S64x1x4x64 ![0, 1, 2] bcast_S64x1x4_S64x1x4x64_0_1_2 (shapeCast S64x1x4 x shapeCasts_S256_S64x1x4)) shapeCasts_S64x1x4x64_S64x1x256 (ix3 g 0 q)
      = x (ix1 (⟨g.val * 4 + q.val / 64, by omega⟩ : Fin 256)) := by
  pointwise

theorem xs_at (x : FVec Ideal S2x4096 .f32) (n : Fin 8192) :
    shapeCast S8192x1 x shapeCasts_S2x4096_S8192x1 (ix2 n 0) = Cert.Spec.sAt x n := by
  pointwise
  rfl

theorem ld_at (x : FVec Ideal S256x64x64 .fp8e4m3) (g : Fin 64) (k q : Fin 256) :
    shapeCast S64x256x256 (select
      (broadcastInDim S64x4x64x4x64 ![0, 1, 2, 3, 4] bcast_S1x4x1x4x1_S64x4x64x4x64_0_1_2_3_4 (broadcastInDim S1x4x1x4x1 ![1, 3] bcast_S4x4_S1x4x1x4x1_1_3 (cmpi .eq (addi (iotaInDim S4x4 32 0) (broadcastInDim S4x4 ![] bcast_S_S4x4 (constantI S_ 32 0#32))) (iotaInDim S4x4 32 1))))
      (broadcastInDim S64x4x64x4x64 ![0, 1, 2, 3, 4] bcast_S64x4x64x1x64_S64x4x64x4x64_0_1_2_3_4 (broadcastInDim S64x4x64x1x64 ![0, 1, 2, 4] bcast_S64x4x64x64_S64x4x64x1x64_0_1_2_4
        (transpose S64x4x64x64 [0, 1, 3, 2] (shapeCast S64x4x64x64 x shapeCasts_S256x64x64_S64x4x64x64) transposes_S64x4x64x64_S64x4x64x64_0_1_3_2)))
      (broadcastInDim S64x4x64x4x64 ![] bcast_S_S64x4x64x4x64 (bitcastToFloat (F := Ideal) .fp8e4m3 (constantI S_ 8 0#8)))) shapeCasts_S64x4x64x4x64_S64x256x256 (ix3 g k q)
      = if k.val / 64 = q.val / 64 then (x (ix3 (⟨g.val * 4 + q.val / 64, by omega⟩ : Fin 256) (⟨q.val % 64, by omega⟩ : Fin 64) (⟨k.val % 64, by omega⟩ : Fin 64)) : EReal) else 0 := by
  pointwise
  have h0 : Ideal.ofBits .fp8e4m3 0#8 = 0 := Ideal.ofBits_zero .fp8e4m3
  have ha : IntOp.addi (BitVec.ofNat 32 (k.val / 64)) 0#32 = BitVec.ofNat 32 (k.val / 64) := BitVec.add_zero _
  by_cases h : k.val / 64 = q.val / 64
  · have hc : IntOp.cmpi .eq (IntOp.addi (BitVec.ofNat 32 (k.val / 64)) 0#32) (BitVec.ofNat 32 (q.val / 64)) = 1#1 := by
      rw [ha]; exact (Idealize.ShloMosaic.WordCmp.cmpi_eq_ofNat_eq_one_iff (by omega) (by omega)).2 h
    refine (Idealize.ShloMosaic.WordCmp.select_of_eq_one hc _ _).trans ?_
    rw [if_pos h]
    refine congrArg x ?_
    simp only [h]
  · have hc : IntOp.cmpi .eq (IntOp.addi (BitVec.ofNat 32 (k.val / 64)) 0#32) (BitVec.ofNat 32 (q.val / 64)) = 0#1 := by
      rw [ha]; exact (Idealize.ShloMosaic.WordCmp.cmpi_eq_ofNat_eq_zero_iff (by omega) (by omega)).2 h
    refine (Idealize.ShloMosaic.WordCmp.select_of_eq_zero hc _ _).trans ?_
    rw [if_neg h]
    exact h0

/-! ## What the first kernel finds -/

variable (m : (ℓ : Loc nD τ sig) → Buf (Elt Ideal) ℓ) (ρ : Dev nD → PrngReg)

theorem V3_v2 (c : Dev nD) (g : Fin 64) (n : Fin 8192) (q : Fin 256) :
    (V3 m ρ c main_v2 : S64x8192x256.Idx → EReal) (ix3 g n q)
      = Cert.Spec.xAt (m ((c : Thread nD τ).loc main_arg0)) n (⟨q.val % 64, by omega⟩ : Fin 64) (⟨g.val * 4 + q.val / 64, by omega⟩ : Fin 256) := by
  rw [← xg_at]
  refine congrFun ?_ _
  refine (W3_of m ρ c main_v2 (by decide)).trans ((W2_of m ρ c main_v2 (by decide)).trans ?_)
  after_results
  rfl

theorem V3_v18 (c : Dev nD) (n : Fin 8192) :
    (V3 m ρ c main_v18 : S8192x1.Idx → EReal) (ix2 n 0) = Cert.Spec.sAt (m ((c : Thread nD τ).loc main_arg1)) n := by
  rw [← xs_at, ← W2_args m ρ c main_arg1 (by decide)]
  refine congrFun ?_ _
  show StableHlo.after hostOps0_2 (W2 m ρ c) _ = _
  generalize W2 m ρ c = B
  after_results
  rfl

theorem V3_v17 (c : Dev nD) (g : Fin 64) (q : Fin 256) :
    (V3 m ρ c main_v17 : S64x1x256.Idx → EReal) (ix3 g 0 q) = m ((c : Thread nD τ).loc main_arg5) (ix1 (⟨g.val * 4 + q.val / 64, by omega⟩ : Fin 256)) := by
  rw [← ls_at (m ((c : Thread nD τ).loc main_arg5)), ← W2_args m ρ c main_arg5 (by decide)]
  refine congrFun ?_ _
  show StableHlo.after hostOps0_2 (W2 m ρ c) _ = _
  generalize W2 m ρ c = B
  after_results
  rfl

theorem V3_v14 (c : Dev nD) (g : Fin 64) (k q : Fin 256) :
    (V3 m ρ c main_v14 : S64x256x256.Idx → EReal) (ix3 g k q)
      = if k.val / 64 = q.val / 64 then (m ((c : Thread nD τ).loc main_arg4) : S256x64x64.Idx → EReal) (ix3 (⟨g.val * 4 + q.val / 64, by omega⟩ : Fin 256) (⟨q.val % 64, by omega⟩ : Fin 64) (⟨k.val % 64, by omega⟩ : Fin 64)) else (0 : EReal) := by
  rw [← ld_at]
  refine congrFun ?_ _
  after_results
  rfl

end Cert.KernelIdeal.Host

end
-- ==== Proof.IdealStage1Array.lean ====
/- The two arrays the first kernel leaves, over the argument arrays: the codes, grouped by four blocks, and the scales.
   The block-diagonal product of four blocks is the four blocks' products, because the zero blocks contribute zeros. -/
module

public import proofs.«01_k».proof.Proof.IdealStage1Value
public import proofs.«01_k».proof.Proof.IdealHost

@[expose] public section

set_option maxRecDepth 16384

noncomputable section

namespace Cert.KernelIdeal.Stage1

open Cert.KernelIdeal Cert.KernelIdeal.Gen Cert.KernelIdeal.Run
open Idealize.ShloMosaic Idealize.ShloMosaic.TcCoe
open Idealize.SL.Sem

section Rows

variable (x0 : FVec Ideal S64x256x256 .fp8e4m3) (x1 : FVec Ideal S256x1 .f32) (x2 : FVec Ideal S64x256x256 .fp8e4m3) (x3 : FVec Ideal S64x1x256 .f32)
variable (X : (⟨3, ![2, 4096, 16384]⟩ : Shape).Idx → EReal) (S : (⟨2, ![2, 4096]⟩ : Shape).Idx → EReal)
variable (L : (⟨3, ![256, 64, 64]⟩ : Shape).Idx → EReal) (LS : (⟨1, ![256]⟩ : Shape).Idx → EReal)

/-- Row `r` of the blocks holds token `n`'s operands. -/
structure Holds (r : Fin 256) (n : Fin 8192) : Prop where
  x0_at : ∀ (g : Fin 64) (q : Fin 256), x0 (ix3 g r q) = Spec.xAt X n (⟨q.val % 64, by omega⟩ : Fin 64) (⟨g.val * 4 + q.val / 64, by omega⟩ : Fin 256)
  x1_at : x1 (ix2 r 0) = Spec.sAt S n
  x2_at : ∀ (g : Fin 64) (k q : Fin 256), x2 (ix3 g k q) = if k.val / 64 = q.val / 64 then L (ix3 (⟨g.val * 4 + q.val / 64, by omega⟩ : Fin 256) (⟨q.val % 64, by omega⟩ : Fin 64) (⟨k.val % 64, by omega⟩ : Fin 64)) else (0 : EReal)
  x3_at : ∀ (g : Fin 64) (q : Fin 256), x3 (ix3 g 0 q) = LS (ix1 (⟨g.val * 4 + q.val / 64, by omega⟩ : Fin 256))

variable {x0 x1 x2 x3 X S L LS}
variable {r : Fin 256} {n : Fin 8192} (H : Holds x0 x1 x2 x3 X S L LS r n)

include H

/-- A lane of the block-diagonal product is the lane's own block's product. -/
theorem prodAt_eq (g : Fin 64) (q : Fin 256) :
    prodAt x0 x1 x2 x3 g r q = Spec.w X S L LS n (⟨g.val * 4 + q.val / 64, by omega⟩ : Fin 256) (⟨q.val % 64, by omega⟩ : Fin 64) := by
  unfold prodAt Spec.w
  rw [H.x1_at, H.x3_at]
  refine congrArg (fun s : EReal => s * Spec.sAt S n * LS (ix1 (⟨g.val * 4 + q.val / 64, by omega⟩ : Fin 256))) ?_
  refine (Fin.sum_univ_tiles 4 64 rfl (fun k : Fin 256 => x0 (ix3 g r k) * x2 (ix3 g k q))).trans ?_
  refine (Finset.sum_eq_single (⟨q.val / 64, by omega⟩ : Fin 4) (fun j _ hj => ?_) (fun h => absurd (Finset.mem_univ _) h)).trans ?_
  · refine Finset.sum_eq_zero fun t _ => ?_
    rw [H.x2_at, if_neg, mul_zero]
    intro h
    apply hj
    apply Fin.ext
    show j.val = q.val / 64
    have : (j.val * 64 + t.val) / 64 = q.val / 64 := h
    omega
  · refine Finset.sum_congr rfl fun t _ => ?_
    rw [H.x0_at, H.x2_at, if_pos (show (q.val / 64 * 64 + t.val) / 64 = q.val / 64 by omega)]
    have h1 : (q.val / 64 * 64 + t.val) / 64 = q.val / 64 := by omega
    have h2 : (q.val / 64 * 64 + t.val) % 64 = t.val := by omega
    simp only [h1, h2]

omit H in
theorem amaxTo_zero_at (q : Fin 256) : amaxTo (F := Ideal) x0 x1 x2 x3 0 (ix2 r q) = 0 := by
  unfold amaxTo
  pointwise [k0_pay2]
  try exact Ideal.ofBits_zero_f32

theorem amaxTo_le (c : ℕ) (q : Fin 256) : amaxTo (F := Ideal) x0 x1 x2 x3 c (ix2 r q) ≤ Spec.amax X S L LS n := by
  induction c with
  | zero =>
    rw [amaxTo_zero_at]
    exact Spec.amax_nonneg X S L LS n
  | succ c ih =>
    by_cases hc : c < 64
    · rw [amaxTo_succ_at x0 x1 x2 x3 c hc, prodAt_eq H]
      refine max_le ih ?_
      exact Spec.le_amax X S L LS n _ _
    · rw [amaxTo, dif_neg hc]
      exact ih

theorem le_amaxTo (q : Fin 256) (c : ℕ) : ∀ g : Fin 64, g.val < c →
    max (prodAt x0 x1 x2 x3 g r q) (-prodAt x0 x1 x2 x3 g r q) ≤ amaxTo (F := Ideal) x0 x1 x2 x3 c (ix2 r q) := by
  induction c with
  | zero => intro g hg; omega
  | succ c ih =>
    intro g hg
    by_cases hc : c < 64
    · rw [amaxTo_succ_at x0 x1 x2 x3 c hc]
      by_cases h : g.val = c
      · have : g = ⟨c, hc⟩ := Fin.ext h
        rw [this]
        exact le_max_right _ _
      · exact (ih g (by omega)).trans (le_max_left _ _)
    · rw [amaxTo, dif_neg hc]
      exact ih g (by omega)

/-- A row's largest carried magnitude is the token's. -/
theorem amax_eq : k0_pay6 (F := Ideal) (amaxTo (F := Ideal) x0 x1 x2 x3 64) (ix2 r 0) = Spec.amax X S L LS n := by
  rw [pay6_at]
  refine le_antisymm (Finset.sup_le fun q _ => amaxTo_le H 64 q) ?_
  refine Finset.sup_le fun p _ => ?_
  obtain ⟨j, k⟩ := p
  have hb := prodAt_eq H (⟨j.val / 4, by omega⟩ : Fin 64) (⟨j.val % 4 * 64 + k.val, by omega⟩ : Fin 256)
  have h1 : j.val / 4 * 4 + (j.val % 4 * 64 + k.val) / 64 = j.val := by omega
  have h2 : (j.val % 4 * 64 + k.val) % 64 = k.val := by omega
  simp only [h1, h2] at hb
  show max (Spec.w X S L LS n j k) (-Spec.w X S L LS n j k) ≤ _
  rw [← hb]
  exact (le_amaxTo H _ 64 _ (by show j.val / 4 < 64; omega)).trans
    (Finset.le_sup (f := fun q : Fin 256 => amaxTo (F := Ideal) x0 x1 x2 x3 64 (ix2 r q)) (Finset.mem_univ _))

theorem scalesOf_at : scalesOf (F := Ideal) x0 x1 x2 x3 (ix2 r 0) = Spec.scale X S L LS n := by
  unfold scalesOf
  rw [pay11_at, amax_eq H, Exponent.scale_agree (Spec.threshold_nonneg X S L LS n)]
  rfl

theorem codesOf_at (g : Fin 64) (q : Fin 256) : codesOf (F := Ideal) x0 x1 x2 x3 (ix3 g r q)
    = Spec.code X S L LS n (⟨g.val * 4 + q.val / 64, by omega⟩ : Fin 256) (⟨q.val % 64, by omega⟩ : Fin 64) := by
  show k0_pay1 (F := Ideal) (negOf (F := Ideal) x0 x1 x2 x3) 127#32 (slab (midOf (F := Ideal) x0 x1 x2 x3) g) (ix3 0 r q) = _
  rw [pay1_at, slab_at, midOf_at, prodAt_eq H]
  unfold negOf
  rw [pay12_at, amax_eq H, Exponent.inverse_agree (Spec.threshold_nonneg X S L LS n)]
  rfl

end Rows

/-! ## The arrays -/

theorem idx : ∀ t : Fin cfg0.N, win0_0.index t = ![0, t.val, 0] ∧ win0_1.index t = ![t.val, 0] ∧ win0_2.index t = ![0, 0, 0] ∧ win0_3.index t = ![0, 0, 0]
    ∧ win0_4.index t = ![0, t.val, 0] ∧ win0_5.index t = ![t.val, 0] :=
  (by decide +kernel : ∀ t : Fin grid0.N, _)

theorem points0 : ∀ t : Fin cfg0.N, t.val < 32 := (by decide +kernel : ∀ t : Fin grid0.N, _)

variable (m : (ℓ : Loc nD τ sig) → Buf (Elt Ideal) ℓ) (ρ : Dev nD → PrngReg)

/-- At every point, row `r` of the blocks holds the operands of token `256 t + r`. -/
theorem holds (c : Dev nD) (t : Fin cfg0.N) (r : Fin 256) :
    Holds (iblk0 (V3 m ρ) c 0 t) (iblk0 (V3 m ρ) c 1 t) (iblk0 (V3 m ρ) c 2 t) (iblk0 (V3 m ρ) c 3 t)
      (m ((c : Thread nD τ).loc main_arg0)) (m ((c : Thread nD τ).loc main_arg1)) (m ((c : Thread nD τ).loc main_arg4)) (m ((c : Thread nD τ).loc main_arg5))
      r (⟨t.val * 256 + r.val, by have := points0 t; omega⟩ : Fin 8192) where
  x0_at g q := by
    refine Eq.trans ?_ (Host.V3_v2 m ρ c g _ q)
    blk_ext [iblk0, idx t]
  x1_at := by
    refine Eq.trans ?_ (Host.V3_v18 m ρ c _)
    blk_ext [iblk0, idx t]
  x2_at g k q := by
    refine Eq.trans ?_ (Host.V3_v14 m ρ c g k q)
    blk_ext [iblk0, idx t]
  x3_at g q := by
    refine Eq.trans ?_ (Host.V3_v17 m ρ c g q)
    blk_ext [iblk0, idx t]

theorem codes_final (c : Dev nD) : (dat0 (V3 m ρ) c).arrAt 4 cfg0.N = fun i : S64x8192x256.Idx =>
    Spec.code (m ((c : Thread nD τ).loc main_arg0)) (m ((c : Thread nD τ).loc main_arg1)) (m ((c : Thread nD τ).loc main_arg4)) (m ((c : Thread nD τ).loc main_arg5))
      (i 1) (⟨(i 0).val * 4 + (i 2).val / 64, by have h0 : (i 0).val < 64 := (i 0).isLt; have h2 : (i 2).val < 256 := (i 2).isLt; omega⟩ : Fin 256)
      (⟨(i 2).val % 64, by omega⟩ : Fin 64) := by
  refine (dat0 (V3 m ρ) c).arrAt_eq_of_covers 4 _ (by decide +kernel) fun t _ y => ?_
  blk_simp
  rw [after0_4]
  idx_vars y
  refine (codesOf_at (holds m ρ c t y1) y0 y2).trans (Spec.code_congr _ _ _ _ ?_ ?_ ?_)
  · blk_simp [idx t]
  · blk_simp [idx t]
  · blk_simp [idx t]

theorem scales_final (c : Dev nD) : (dat0 (V3 m ρ) c).arrAt 5 cfg0.N = fun i : S8192x1.Idx =>
    Spec.scale (m ((c : Thread nD τ).loc main_arg0)) (m ((c : Thread nD τ).loc main_arg1)) (m ((c : Thread nD τ).loc main_arg4)) (m ((c : Thread nD τ).loc main_arg5)) (i 0) := by
  refine (dat0 (V3 m ρ) c).arrAt_eq_of_covers 5 _ (by decide +kernel) fun t _ y => ?_
  blk_simp
  rw [after0_5]
  idx_vars y
  have h1 : y1 = 0 := Fin.ext (by omega)
  rw [h1]
  refine (scalesOf_at (holds m ρ c t y0)).trans (Spec.scale_congr _ _ _ _ ?_)
  blk_simp [idx t]

end Cert.KernelIdeal.Stage1

end
-- ==== Proof.IdealStage2Value.lean ====
/- The array the second kernel leaves, over the argument arrays, and the program's three results. -/
module

public import proofs.«01_k».proof.Proof.IdealStage1Array

@[expose] public section

set_option maxRecDepth 16384

noncomputable section

namespace Cert.KernelIdeal.Stage2

open Cert.KernelIdeal Cert.KernelIdeal.Gen Cert.KernelIdeal.Run
open Idealize.ShloMosaic Idealize.ShloMosaic.TcCoe
open Idealize.SL.Sem

/-! ## The host's regrouping of the codes -/

theorem mid_at (z : FVec Ideal S64x8192x256 .fp8e4m3) (b : Fin 2) (s : Fin 4096) (j : Fin 256) (k : Fin 64) :
    shapeCast S2x4096x256x64 (transpose S8192x64x4x64 [1, 0, 2, 3] (shapeCast S64x8192x4x64 z shapeCasts_S64x8192x256_S64x8192x4x64) transposes_S64x8192x4x64_S8192x64x4x64_1_0_2_3) shapeCasts_S8192x64x4x64_S2x4096x256x64 (ix4 b s j k)
      = z (ix3 (⟨j.val / 4, by omega⟩ : Fin 64) (⟨b.val * 4096 + s.val, by omega⟩ : Fin 8192) (⟨j.val % 4 * 64 + k.val, by omega⟩ : Fin 256)) := by
  pointwise

theorem mk_at (z : FVec Ideal S64x8192x256 .fp8e4m3) (k : Fin 64) (n : Fin 8192) (j : Fin 256) :
    shapeCast S64x8192x256 (transpose S64x8192x64x4 [3, 1, 0, 2] (shapeCast S64x8192x4x64 z shapeCasts_S64x8192x256_S64x8192x4x64) transposes_S64x8192x4x64_S64x8192x64x4_3_1_0_2) shapeCasts_S64x8192x64x4_S64x8192x256 (ix3 k n j)
      = z (ix3 (⟨j.val / 4, by omega⟩ : Fin 64) n (⟨j.val % 4 * 64 + k.val, by omega⟩ : Fin 256)) := by
  pointwise

theorem pay1_at (a : FVec Ideal S1x1024x256 .fp8e4m3) (b : FVec Ideal S1x256x256 .fp8e4m3) (s : FVec Ideal S1024x1 .f32) (u : EReal) (r : Fin 1024) (i : Fin 256) :
    k1_pay1 (F := Ideal) a b s u (ix2 r i) = (∑ j : Fin 256, a (ix3 0 r j) * b (ix3 0 i j)) * s (ix2 r 0) * u := by
  pointwise [k1_pay1]

variable (m : (ℓ : Loc nD τ sig) → Buf (Elt Ideal) ℓ) (ρ : Dev nD → PrngReg)

theorem idx : ∀ t : Fin cfg1.N, win1_0.index t = ![t.val % 64, t.val / 64, 0] ∧ win1_1.index t = ![t.val / 64, 0] ∧ win1_2.index t = ![0, 0, 0] ∧ win1_3.index t = ![0]
    ∧ win1_4.index t = ![t.val / 64, t.val % 64] ∧ t.val / 64 < 8 ∧ (grid1.coords t 1).val = t.val % 64 :=
  (by decide +kernel : ∀ t : Fin grid1.N, _)

theorem ld_mat (x : Vec Ideal S64x256x256 .fp8e4m3) (i : grid1.Coords) (k : Fin 64) (hk : (i 1).val = k.val) (a b : Fin 256) :
    View.ld x (Rect.unit (s := S64x256x256) (k1_off1 i) S1x256x256.size (k1_off1_inb i)) (ix3 0 a b) = x (ix3 k a b) :=
  congrArg x (Stage1.emb_slab k (by rw [k1_off1_eq, ← hk]) (k1_off1_inb i) (ix3 0 a b))

theorem ld_scale (x : Vec Ideal S64 .f32) (i : grid1.Coords) (k : Fin 64) (hk : (i 1).val = k.val) (j : S1.Idx) :
    View.ld x (Rect.unit (s := S64) (k1_off2 i) S1.size (k1_off2_inb i)) j = x (ix1 k) := by
  refine congrArg x (funext fun a => Fin.ext ?_)
  fin_cases a
  have hj : (j 0).val < 1 := (j 0).isLt
  have h : (k1_off2 i 0) = k.val := by rw [k1_off2_eq, ← hk]; rfl
  show k1_off2 i 0 + 1 * (j 0).val = k.val
  omega

theorem V5_v24 (c : Dev nD) (k : Fin 64) (n : Fin 8192) (j : Fin 256) : (V5 m ρ c main_v24 : S64x8192x256.Idx → EReal) (ix3 k n j)
    = Spec.code (m ((c : Thread nD τ).loc main_arg0)) (m ((c : Thread nD τ).loc main_arg1)) (m ((c : Thread nD τ).loc main_arg4)) (m ((c : Thread nD τ).loc main_arg5)) n j k := by
  have h : (V5 m ρ c main_v24 : S64x8192x256.Idx → EReal) = shapeCast S64x8192x256 (transpose S64x8192x64x4 [3, 1, 0, 2] (shapeCast S64x8192x4x64 (show FVec Ideal S64x8192x256 .fp8e4m3 from W4 m ρ c main_v19_0) shapeCasts_S64x8192x256_S64x8192x4x64) transposes_S64x8192x4x64_S64x8192x64x4_3_1_0_2) shapeCasts_S64x8192x64x4_S64x8192x256 := by
    show StableHlo.after hostOps1 (W4 m ρ c) _ = _
    generalize W4 m ρ c = B
    after_results
    rfl
  refine (congrFun h _).trans ((mk_at _ k n j).trans ?_)
  have e : W4 m ρ c main_v19_0 = _ := (W4_arr m ρ c 4).trans (Stage1.codes_final m ρ c)
  refine (congrFun e _).trans (Spec.code_congr _ _ _ _ ?_ ?_ ?_)
  · rfl
  · show j.val / 4 * 4 + (j.val % 4 * 64 + k.val) / 64 = j.val
    omega
  · show (j.val % 4 * 64 + k.val) % 64 = k.val
    omega

theorem V5_v19_1 (c : Dev nD) (n : Fin 8192) : (V5 m ρ c main_v19_1 : S8192x1.Idx → EReal) (ix2 n 0)
    = Spec.scale (m ((c : Thread nD τ).loc main_arg0)) (m ((c : Thread nD τ).loc main_arg1)) (m ((c : Thread nD τ).loc main_arg4)) (m ((c : Thread nD τ).loc main_arg5)) n :=
  congrFun ((W5_of m ρ c main_v19_1 (by decide)).trans ((W4_arr m ρ c 5).trans (Stage1.scales_final m ρ c))) _

theorem out_at (c : Dev nD) (t : Fin cfg1.N) (r : Fin 1024) (i : Fin 256) : outsAt1 (V5 m ρ) c t (ix2 r i)
    = Spec.y (m ((c : Thread nD τ).loc main_arg0)) (m ((c : Thread nD τ).loc main_arg1)) (m ((c : Thread nD τ).loc main_arg4)) (m ((c : Thread nD τ).loc main_arg5))
      (m ((c : Thread nD τ).loc main_arg2)) (m ((c : Thread nD τ).loc main_arg3))
      (⟨t.val / 64 * 1024 + r.val, by have := (idx t).2.2.2.2.2.1; omega⟩ : Fin 8192) (⟨t.val % 64, by omega⟩ : Fin 64) i := by
  unfold outsAt1
  frame_out
  have hk : (grid1.coords t 1).val = (⟨t.val % 64, by omega⟩ : Fin 64).val := (idx t).2.2.2.2.2.2
  rw [pay1_at]
  unfold Spec.y
  have h3 : (iblk1 (V5 m ρ) c 3 t : S64.Idx → EReal) = m ((c : Thread nD τ).loc main_arg3) := by
    rw [← W5_args m ρ c main_arg3 (by decide)]
    blk_ext! [iblk1, idx t]
  have h2 : (iblk1 (V5 m ρ) c 2 t : S64x256x256.Idx → EReal) = m ((c : Thread nD τ).loc main_arg2) := by
    rw [← W5_args m ρ c main_arg2 (by decide)]
    blk_ext! [iblk1, idx t]
  have h1 : (iblk1 (V5 m ρ) c 1 t : S1024x1.Idx → EReal) (ix2 r 0) = _ := Eq.trans (by blk_ext [iblk1, idx t]) (V5_v19_1 m ρ c (⟨t.val / 64 * 1024 + r.val, by have := (idx t).2.2.2.2.2.1; omega⟩ : Fin 8192))
  have h0 : ∀ j : Fin 256, (iblk1 (V5 m ρ) c 0 t : S1x1024x256.Idx → EReal) (ix3 0 r j) = _ := fun j =>
    Eq.trans (by blk_ext [iblk1, idx t]) (V5_v24 m ρ c (⟨t.val % 64, by omega⟩ : Fin 64) (⟨t.val / 64 * 1024 + r.val, by have := (idx t).2.2.2.2.2.1; omega⟩ : Fin 8192) j)
  refine congrArg₂ (fun a b : EReal => a * b) (congrArg₂ (fun a b : EReal => a * b) (Finset.sum_congr rfl fun j _ => congrArg₂ (fun a b : EReal => a * b) (h0 j) ?_) h1) ?_
  · exact (ld_mat (iblk1 (V5 m ρ) c 2 t : S64x256x256.Idx → EReal) _ _ hk _ _).trans (congrFun h2 _)
  · exact (ld_scale (iblk1 (V5 m ρ) c 3 t : S64.Idx → EReal) _ _ hk _).trans (congrFun h3 _)

theorem y_final (c : Dev nD) : (dat1 (V5 m ρ) c).arrAt 4 cfg1.N = fun i : S8192x16384.Idx =>
    Spec.y (m ((c : Thread nD τ).loc main_arg0)) (m ((c : Thread nD τ).loc main_arg1)) (m ((c : Thread nD τ).loc main_arg4)) (m ((c : Thread nD τ).loc main_arg5))
      (m ((c : Thread nD τ).loc main_arg2)) (m ((c : Thread nD τ).loc main_arg3))
      (i 0) (⟨(i 1).val / 256, by have h : (i 1).val < 16384 := (i 1).isLt; omega⟩ : Fin 64) (⟨(i 1).val % 256, by omega⟩ : Fin 256) := by
  refine (dat1 (V5 m ρ) c).arrAt_eq_of_covers 4 _ (by decide +kernel) fun t _ y => ?_
  blk_simp
  rw [after1_4]
  idx_vars y
  refine (out_at m ρ c t y0 y1).trans (Spec.y_congr _ _ _ _ _ _ ?_ ?_ ?_)
  · blk_simp [idx t]
  · blk_simp [idx t]
    show t.val % 64 = (t.val % 64 * 256 + y1.val) / 256
    omega
  · blk_simp [idx t]
    show y1.val = (t.val % 64 * 256 + y1.val) % 256
    omega

/-! ## The three results -/

theorem result1 (c : Dev nD) : (W7 m ρ c main_v26 : S2x4096x16384.Idx → EReal)
    = Spec.out1 (m ((c : Thread nD τ).loc main_arg0)) (m ((c : Thread nD τ).loc main_arg1)) (m ((c : Thread nD τ).loc main_arg4)) (m ((c : Thread nD τ).loc main_arg5))
      (m ((c : Thread nD τ).loc main_arg2)) (m ((c : Thread nD τ).loc main_arg3)) := by
  have h : (W7 m ρ c main_v26 : S2x4096x16384.Idx → EReal) = shapeCast S2x4096x16384 (show FVec Ideal S8192x16384 .bf16 from W6 m ρ c main_v25) shapeCasts_S8192x16384_S2x4096x16384 := by
    show StableHlo.after hostOps2 (W6 m ρ c) _ = _
    generalize W6 m ρ c = B
    after_results
    rfl
  have e : W6 m ρ c main_v25 = _ := (W6_arr m ρ c 4).trans (y_final m ρ c)
  rw [h, e]
  funext p
  pointwise [Spec.out1]
  rfl

theorem result2 (c : Dev nD) : (W7 m ρ c main_v22 : S2x4096x256x64.Idx → EReal)
    = Spec.out2 (m ((c : Thread nD τ).loc main_arg0)) (m ((c : Thread nD τ).loc main_arg1)) (m ((c : Thread nD τ).loc main_arg4)) (m ((c : Thread nD τ).loc main_arg5)) := by
  have h : (W7 m ρ c main_v22 : S2x4096x256x64.Idx → EReal) = shapeCast S2x4096x256x64 (transpose S8192x64x4x64 [1, 0, 2, 3] (shapeCast S64x8192x4x64 (show FVec Ideal S64x8192x256 .fp8e4m3 from W4 m ρ c main_v19_0) shapeCasts_S64x8192x256_S64x8192x4x64) transposes_S64x8192x4x64_S8192x64x4x64_1_0_2_3) shapeCasts_S8192x64x4x64_S2x4096x256x64 := by
    refine (W7_of m ρ c main_v22 (by decide)).trans ((W6_of m ρ c main_v22 (by decide)).trans ?_)
    show StableHlo.after hostOps1 (W4 m ρ c) _ = _
    generalize W4 m ρ c = B
    after_results
    rfl
  have e : W4 m ρ c main_v19_0 = _ := (W4_arr m ρ c 4).trans (Stage1.codes_final m ρ c)
  rw [h]
  funext p
  idx_vars p
  refine (mid_at _ p0 p1 p2 p3).trans ((congrFun e _).trans (Spec.code_congr _ _ _ _ ?_ ?_ ?_))
  · rfl
  · show p2.val / 4 * 4 + (p2.val % 4 * 64 + p3.val) / 64 = p2.val
    omega
  · show (p2.val % 4 * 64 + p3.val) % 64 = p3.val
    omega

theorem result3 (c : Dev nD) : (W7 m ρ c main_v27 : S2x4096.Idx → EReal)
    = Spec.out3 (m ((c : Thread nD τ).loc main_arg0)) (m ((c : Thread nD τ).loc main_arg1)) (m ((c : Thread nD τ).loc main_arg4)) (m ((c : Thread nD τ).loc main_arg5)) := by
  have h : (W7 m ρ c main_v27 : S2x4096.Idx → EReal) = shapeCast S2x4096 (show FVec Ideal S8192x1 .f32 from W6 m ρ c main_v19_1) shapeCasts_S8192x1_S2x4096 := by
    show StableHlo.after hostOps2 (W6 m ρ c) _ = _
    generalize W6 m ρ c = B
    after_results
    rfl
  have e : W6 m ρ c main_v19_1 = _ := (W6_of m ρ c main_v19_1 (by decide)).trans ((W5_of m ρ c main_v19_1 (by decide)).trans ((W4_arr m ρ c 5).trans (Stage1.scales_final m ρ c)))
  rw [h, e]
  funext p
  pointwise [Spec.out3]
  rfl

end Cert.KernelIdeal.Stage2

end
-- ==== Proof.RefPayload.lean ====
/- The reference's arithmetic at exact values, read at an index: the two products, the largest magnitude of a token's first product, the
   exponent and the clipped codes. -/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Payload

open Cert.ReferenceIdeal Cert.ReferenceIdeal.Gen
open Idealize.ShloMosaic Idealize.ShloMosaic.TcCoe
open Idealize.SL.Sem

variable {F : FTy → Type} [FloatOps F]

/-- The largest magnitude over the first and last axes. -/
def rowMax (z : FVec F S256x8192x64 .f32) : FVec F S8192 .f32 :=
  multiReduction .maximumf [0, 2] S8192 z 0xFF800000#32 reduces_S256x8192x64_S8192 (.inl rfl) rfl

/-- The exponents of a column of largest magnitudes. -/
def expoOf (v14 : FVec F S1x8192x1 .f32) : FVec F S1x8192x1 .f32 :=
  have v15 : IVec S1x8192x247 32 := iota .tc S1x8192x247 32 [2] iota_S1x8192x247_d2_w32
  have v16 : FVec F S1x8192x247 .f32 := sitofp .f32 v15
  have v18 : FVec F S1x8192x247 .f32 := subf v16 (broadcast S1x8192x247 (Scalar.ofBits .f32 0x42FC0000#32))
  have v20 : FVec F S1x8192x1 .f32 := mulf v14 (broadcast S1x8192x1 (Scalar.ofBits .f32 0x3B124925#32))
  have v22 : FVec F S1x8192x247 .f32 := powf (broadcast S1x8192x247 (Scalar.ofBits .f32 0x40000000#32)) v18
  have v24 : IVec S1x8192x247 1 := cmpf .olt (broadcastTo S1x8192x247 v20 broadcasts_S1x8192x1_S1x8192x247) v22
  have v26 : FVec F S1x8192x247 .f32 := select v24 v18 (broadcast S1x8192x247 (Scalar.ofBits .f32 0x42F00000#32))
  have v27 : FVec F S1x8192 .f32 := multiReduction .minimumf [2] S1x8192 v26 0x7F800000#32 reduces_S1x8192x247_S1x8192 (.inl rfl) rfl
  have v28 : FVec F S1x8192x1 .f32 := shapeCast S1x8192x1 v27 shapeCasts_S1x8192_S1x8192x1
  have v30 : IVec S1x8192x1 1 := cmpf .oeq v14 (broadcast S1x8192x1 (Scalar.ofBits .f32 0x00000000#32))
  select v30 (broadcast S1x8192x1 (Scalar.ofBits .f32 0x00000000#32)) v28

theorem pay4_eq (v0 : Vec F S256x8192x64 .fp8e4m3) (v2 : Vec F S256x64x64 .fp8e4m3) (v4 : Vec F S1x8192x1 .f32) (v8 : Vec F S256x1x1 .f32) :
    k0_pay4 v0 v2 v4 v8 = expoOf (shapeCast S1x8192x1 (rowMax (absf (k0_pay3 v0 v2 v4 v8))) shapeCasts_S8192_S1x8192x1) := rfl

theorem drop_val (i : S256x8192x64.Idx) : (reduces_S256x8192x64_S8192.drop i 0).val = (i 1).val := rfl

theorem fold_eq_sup {ι : Type} (s : Finset ι) (f : ι → EReal) :
    s.fold (FloatOps.maximumf (F := Ideal) (φ := .f32)) (⊥ : EReal) f = s.sup f := rfl

theorem rowMax_at (z : FVec Ideal S256x8192x64 .f32) (n : Fin 8192) :
    rowMax z (ix1 n) = Finset.univ.sup fun p : Fin 256 × Fin 64 => (z (ix3 p.1 n p.2) : EReal) := by
  unfold rowMax
  refine (multiReduction_maximumf_eq_fold z _ _ _ _ _).trans ?_
  have hb : FloatOps.ofBits (F := Ideal) .f32 0xFF800000#32 = (⊥ : EReal) := Exponent.ofBits_neg_inf
  rw [hb]
  refine (fold_eq_sup _ _).trans (le_antisymm (Finset.sup_le fun i hi => ?_) (Finset.sup_le fun p _ => ?_))
  · have h := congrArg Fin.val (congrFun (Finset.mem_filter.mp hi).2 0)
    have h1 : i 1 = n := Fin.ext ((drop_val i).symm.trans h)
    have e : i = ix3 (i 0) n (i 2) := by rw [← h1]; exact eq_ix3 i
    rw [e]
    exact Finset.le_sup (f := fun p : Fin 256 × Fin 64 => (z (ix3 p.1 n p.2) : EReal)) (Finset.mem_univ (i 0, i 2))
  · refine Finset.le_sup (f := z) (b := ix3 p.1 n p.2) (Finset.mem_filter.mpr ⟨Finset.mem_univ _, ?_⟩)
    funext b
    apply Fin.ext
    have hb : b = 0 := Subsingleton.elim (α := Fin 1) b 0
    rw [hb]
    exact drop_val _

theorem candidate_at (k : Fin 247) : (FloatOps.sitofp (F := Ideal) .f32 (BitVec.ofNat 32 k.val) - Ideal.ofBits .f32 0x42FC0000#32 : EReal) = Exponent.candidate k.val := by
  have h : ∀ k : Fin 247, (BitVec.ofNat 32 k.val).toInt = (k.val : ℤ) := by decide +kernel
  show (((BitVec.ofNat 32 k.val).toInt : ℝ) : EReal) - Ideal.ofBits .f32 0x42FC0000#32 = _
  rw [h, Exponent.ofBits_126, ← EReal.coe_sub]
  unfold Exponent.candidate
  congr 1
  push_cast
  rfl

theorem expoOf_at (A : FVec Ideal S1x8192x1 .f32) (n : Fin 8192) :
    expoOf A (ix3 0 n 0) = Exponent.exponentReal (A (ix3 0 n 0)) (A (ix3 0 n 0) * Ideal.ofBits .f32 0x3B124925#32) := by
  pointwise [expoOf]
  unfold Exponent.exponentReal
  simp only [candidate_at, Exponent.ofBits_inf, Exponent.ofBits_two, Exponent.ofBits_120]

section Payloads

variable (v0 : FVec Ideal S256x8192x64 .fp8e4m3) (v2 : FVec Ideal S256x64x64 .fp8e4m3) (v4 : FVec Ideal S1x8192x1 .f32) (v8 : FVec Ideal S256x1x1 .f32)

theorem pay3_at (j : Fin 256) (n : Fin 8192) (k : Fin 64) :
    k0_pay3 (F := Ideal) v0 v2 v4 v8 (ix3 j n k) = (∑ l : Fin 64, v0 (ix3 j n l) * v2 (ix3 j k l)) * v4 (ix3 0 n 0) * v8 (ix3 j 0 0) := by
  pointwise [k0_pay3]

theorem pay1_at (w : FVec Ideal S256x8192x64 .f32) (b e : FVec Ideal S1x8192x1 .f32) (j : Fin 256) (n : Fin 8192) (k : Fin 64) :
    k0_pay1 (F := Ideal) w b e (ix3 j n k) = min (Ideal.ofBits .f32 0x43E00000#32) (max (Ideal.ofBits .f32 0xC3E00000#32) (w (ix3 j n k) * Ideal.pow (b (ix3 0 n 0)) (e (ix3 0 n 0)))) := by
  pointwise [k0_pay1]

theorem pay2_at (w : FVec Ideal S256x8192x64 .f32) (b s e : FVec Ideal S1x8192x1 .f32) (r : FVec Ideal S64x256x256 .fp8e4m3) (u : FVec Ideal S64x1x1 .f32) (k : Fin 64) (n : Fin 8192) (i : Fin 256) :
    k0_pay2 (F := Ideal) w b s e r u (ix3 k n i) = (∑ j : Fin 256, k0_pay1 (F := Ideal) w b e (ix3 j n k) * r (ix3 k i j)) * s (ix3 0 n 0) * u (ix3 k 0 0) := by
  pointwise [k0_pay2]

end Payloads

end Cert.ReferenceIdeal.Payload

end
-- ==== Proof.RefOperands.lean ====
/- The reference's arithmetic over its regrouped operands: each intermediate is the specification's. -/
module

public import proofs.«01_k».proof.Proof.RefPayload

@[expose] public section

set_option maxRecDepth 16384

noncomputable section

namespace Cert.ReferenceIdeal.Payload

open Cert.ReferenceIdeal Cert.ReferenceIdeal.Gen
open Idealize.ShloMosaic Idealize.ShloMosaic.TcCoe
open Idealize.SL.Sem

section Operands

variable (v0 : FVec Ideal S256x8192x64 .fp8e4m3) (v2 : FVec Ideal S256x64x64 .fp8e4m3) (v4 : FVec Ideal S1x8192x1 .f32) (v8 : FVec Ideal S256x1x1 .f32)
variable (X : (⟨3, ![2, 4096, 16384]⟩ : Shape).Idx → EReal) (S : (⟨2, ![2, 4096]⟩ : Shape).Idx → EReal)
variable (L : (⟨3, ![256, 64, 64]⟩ : Shape).Idx → EReal) (LS : (⟨1, ![256]⟩ : Shape).Idx → EReal)

/-- The operands are the regrouped argument arrays. -/
structure Holds : Prop where
  v0_at : ∀ (j : Fin 256) (n : Fin 8192) (l : Fin 64), v0 (ix3 j n l) = Spec.xAt X n l j
  v2_at : ∀ (j : Fin 256) (k l : Fin 64), v2 (ix3 j k l) = L (ix3 j k l)
  v4_at : ∀ n : Fin 8192, v4 (ix3 0 n 0) = Spec.sAt S n
  v8_at : ∀ j : Fin 256, v8 (ix3 j 0 0) = LS (ix1 j)

variable {v0 v2 v4 v8 X S L LS} (H : Holds v0 v2 v4 v8 X S L LS)

include H

theorem w_eq (j : Fin 256) (n : Fin 8192) (k : Fin 64) : k0_pay3 (F := Ideal) v0 v2 v4 v8 (ix3 j n k) = Spec.w X S L LS n j k := by
  rw [pay3_at, H.v4_at, H.v8_at]
  unfold Spec.w
  simp only [H.v0_at, H.v2_at]

omit H in
theorem absf_at (z : FVec Ideal S256x8192x64 .f32) (i : S256x8192x64.Idx) : (absf z i : EReal) = max (z i) (-z i) := rfl

theorem amax_eq (n : Fin 8192) : rowMax (absf (k0_pay3 (F := Ideal) v0 v2 v4 v8)) (ix1 n) = Spec.amax X S L LS n := by
  rw [rowMax_at]
  unfold Spec.amax
  refine congrArg (Finset.sup Finset.univ) (funext fun p => ?_)
  rw [absf_at, w_eq H]

omit H in
theorem col_at (z : FVec Ideal S8192 .f32) (n : Fin 8192) : shapeCast S1x8192x1 z shapeCasts_S8192_S1x8192x1 (ix3 0 n 0) = z (ix1 n) := by
  pointwise

theorem expo_eq (n : Fin 8192) : k0_pay4 (F := Ideal) v0 v2 v4 v8 (ix3 0 n 0) = Spec.expo X S L LS n := by
  rw [pay4_eq, expoOf_at, col_at, amax_eq H]
  rfl

omit H in
theorem pay6_eq (w : FVec Ideal S1x8192x1 .f32) (h : k0_pay4 (F := Ideal) v0 v2 v4 v8 = w) :
    k0_pay6 (F := Ideal) v0 v2 v4 v8 = powf (k0_pay5 (F := Ideal)) w := by
  unfold k0_pay6
  rw [h]

omit H in
theorem pay7_eq (w : FVec Ideal S1x8192x1 .f32) (h : k0_pay4 (F := Ideal) v0 v2 v4 v8 = w) :
    k0_pay7 (F := Ideal) v0 v2 v4 v8 = subf (broadcast S1x8192x1 (Scalar.ofBits .f32 0x00000000#32)) w := by
  unfold k0_pay7
  rw [h]

omit H in
theorem powf_at (a b : FVec Ideal S1x8192x1 .f32) (i : S1x8192x1.Idx) : powf a b i = Ideal.pow (a i) (b i) := rfl

omit H in
theorem zero_subf_at (b : FVec Ideal S1x8192x1 .f32) (i : S1x8192x1.Idx) :
    subf (broadcast S1x8192x1 (Scalar.ofBits (F := Ideal) .f32 0x00000000#32)) b i = (0 - b i : EReal) :=
  congrArg (fun z : EReal => z - b i) Ideal.ofBits_zero_f32

omit H in
theorem pay5_at (n : Fin 8192) : k0_pay5 (F := Ideal) (ix3 0 n 0) = ((2 : ℝ) : EReal) := Exponent.ofBits_two

theorem scale_eq (n : Fin 8192) : k0_pay6 (F := Ideal) v0 v2 v4 v8 (ix3 0 n 0) = Spec.scale X S L LS n := by
  have he := expo_eq H n
  generalize hw : k0_pay4 (F := Ideal) v0 v2 v4 v8 = w at he
  rw [pay6_eq w hw, powf_at, pay5_at, he]
  rfl

theorem neg_eq (n : Fin 8192) : k0_pay7 (F := Ideal) v0 v2 v4 v8 (ix3 0 n 0) = 0 - Spec.expo X S L LS n := by
  have he := expo_eq H n
  generalize hw : k0_pay4 (F := Ideal) v0 v2 v4 v8 = w at he
  rw [pay7_eq w hw, zero_subf_at, he]

theorem code_eq (j : Fin 256) (n : Fin 8192) (k : Fin 64) :
    k0_pay1 (F := Ideal) (k0_pay3 v0 v2 v4 v8) (k0_pay5 (F := Ideal)) (k0_pay7 v0 v2 v4 v8) (ix3 j n k) = Spec.code X S L LS n j k := by
  rw [pay1_at, w_eq H, pay5_at, neg_eq H]
  rfl

theorem y_eq (R : (⟨3, ![64, 256, 256]⟩ : Shape).Idx → EReal) (RS : (⟨1, ![64]⟩ : Shape).Idx → EReal) (u : FVec Ideal S64x1x1 .f32)
    (hu : ∀ k : Fin 64, u (ix3 k 0 0) = RS (ix1 k)) (k : Fin 64) (n : Fin 8192) (i : Fin 256) :
    k0_pay2 (F := Ideal) (k0_pay3 v0 v2 v4 v8) (k0_pay5 (F := Ideal)) (k0_pay6 v0 v2 v4 v8) (k0_pay7 v0 v2 v4 v8) R u (ix3 k n i)
      = Spec.y X S L LS R RS n k i := by
  rw [pay2_at, scale_eq H, hu]
  unfold Spec.y
  simp only [code_eq H]

end Operands

end Cert.ReferenceIdeal.Payload

end
-- ==== Proof.RefValue.lean ====
/- The three arrays the reference's kernel leaves and the reference's three results, over the argument arrays. -/
module

public import proofs.«01_k».proof.Proof.Gen.ReferenceIdeal.Frame
public import proofs.«01_k».proof.Proof.RefOperands
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Gen Cert.ReferenceIdeal.Payload
open Idealize.ShloMosaic Idealize.ShloMosaic.TcCoe
open Idealize.SL.Sem

/-! ## The host's regroupings -/

theorem xt_at (x : FVec Ideal S2x4096x16384 .fp8e4m3) (j : Fin 256) (n : Fin 8192) (l : Fin 64) :
    shapeCast S256x8192x64 (transpose S256x2x4096x64 [3, 0, 1, 2] (shapeCast S2x4096x64x256 x shapeCasts_S2x4096x16384_S2x4096x64x256) transposes_S2x4096x64x256_S256x2x4096x64_3_0_1_2) shapeCasts_S256x2x4096x64_S256x8192x64 (ix3 j n l)
      = Cert.Spec.xAt x n l j := by
  pointwise
  rfl

theorem xs_at (x : FVec Ideal S2x4096 .f32) (n : Fin 8192) : shapeCast S1x8192x1 x shapeCasts_S2x4096_S1x8192x1 (ix3 0 n 0) = Cert.Spec.sAt x n := by
  pointwise
  rfl

theorem rs_at (x : FVec Ideal S64 .f32) (k : Fin 64) : shapeCast S64x1x1 x shapeCasts_S64_S64x1x1 (ix3 k 0 0) = x (ix1 k) := by
  pointwise

theorem ls_at (x : FVec Ideal S256 .f32) (j : Fin 256) : shapeCast S256x1x1 x shapeCasts_S256_S256x1x1 (ix3 j 0 0) = x (ix1 j) := by
  pointwise

theorem codes_at (z : FVec Ideal S256x8192x64 .fp8e4m3) (b : Fin 2) (s : Fin 4096) (j : Fin 256) (k : Fin 64) :
    transpose S2x4096x256x64 [1, 2, 0, 3] (shapeCast S256x2x4096x64 z shapeCasts_S256x8192x64_S256x2x4096x64) transposes_S256x2x4096x64_S2x4096x256x64_1_2_0_3 (ix4 b s j k)
      = z (ix3 j (Cert.Spec.token b s) k) := by
  pointwise
  rfl

theorem ys_at (z : FVec Ideal S64x8192x256 .bf16) (b : Fin 2) (s : Fin 4096) (d : Fin 16384) :
    shapeCast S2x4096x16384 (transpose S2x4096x64x256 [1, 2, 0, 3] (shapeCast S64x2x4096x256 z shapeCasts_S64x8192x256_S64x2x4096x256) transposes_S64x2x4096x256_S2x4096x64x256_1_2_0_3) shapeCasts_S2x4096x64x256_S2x4096x16384 (ix3 b s d)
      = z (ix3 (⟨d.val / 256, by omega⟩ : Fin 64) (Cert.Spec.token b s) (⟨d.val % 256, by omega⟩ : Fin 256)) := by
  pointwise
  rfl

theorem scales_at (z : FVec Ideal S1x8192x1 .f32) (b : Fin 2) (s : Fin 4096) :
    shapeCast S2x4096 z shapeCasts_S1x8192x1_S2x4096 (ix2 b s) = z (ix3 0 (Cert.Spec.token b s) 0) := by
  pointwise
  rfl

/-! ## The arrays -/

variable (m : (ℓ : Loc nD τ sig) → Buf (Elt Ideal) ℓ) (ρ : Dev nD → PrngReg)

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] :=
  (by decide +kernel : ∀ t : Fin grid0.N, _)

theorem V_v2 (c : Dev nD) : (V m c main_v2 : S256x8192x64.Idx → EReal) = shapeCast S256x8192x64 (transpose S256x2x4096x64 [3, 0, 1, 2] (shapeCast S2x4096x64x256 (show FVec Ideal S2x4096x16384 .fp8e4m3 from m ((c : Thread nD τ).loc main_arg0)) shapeCasts_S2x4096x16384_S2x4096x64x256) transposes_S2x4096x64x256_S256x2x4096x64_3_0_1_2) shapeCasts_S256x2x4096x64_S256x8192x64 := by
  entry_read
  rfl

theorem V_v3 (c : Dev nD) : (V m c main_v3 : S1x8192x1.Idx → EReal) = shapeCast S1x8192x1 (show FVec Ideal S2x4096 .f32 from m ((c : Thread nD τ).loc main_arg1)) shapeCasts_S2x4096_S1x8192x1 := by
  entry_read
  rfl

theorem V_v4 (c : Dev nD) : (V m c main_v4 : S64x1x1.Idx → EReal) = shapeCast S64x1x1 (show FVec Ideal S64 .f32 from m ((c : Thread nD τ).loc main_arg3)) shapeCasts_S64_S64x1x1 := by
  entry_read
  rfl

theorem V_v5 (c : Dev nD) : (V m c main_v5 : S256x1x1.Idx → EReal) = shapeCast S256x1x1 (show FVec Ideal S256 .f32 from m ((c : Thread nD τ).loc main_arg5)) shapeCasts_S256_S256x1x1 := by
  entry_read
  rfl

theorem holds (c : Dev nD) (t : Fin cfg0.N) : Holds (iblk m c 0 t) (iblk m c 4 t) (iblk m c 1 t) (iblk m c 5 t)
    (m ((c : Thread nD τ).loc main_arg0)) (m ((c : Thread nD τ).loc main_arg1)) (m ((c : Thread nD τ).loc main_arg4)) (m ((c : Thread nD τ).loc main_arg5)) where
  v0_at j n l := by
    have h : (iblk m c 0 t : S256x8192x64.Idx → EReal) = V m c main_v2 := by blk_ext! [iblk, idx t]
    exact (congrFun (h.trans (V_v2 m c)) _).trans (xt_at _ j n l)
  v2_at j k l := by
    have h : (iblk m c 4 t : S256x64x64.Idx → EReal) = V m c main_arg4 := by blk_ext! [iblk, idx t]
    exact congrFun (h.trans (V_main_arg4 m c)) _
  v4_at n := by
    have h : (iblk m c 1 t : S1x8192x1.Idx → EReal) = V m c main_v3 := by blk_ext! [iblk, idx t]
    exact (congrFun (h.trans (V_v3 m c)) _).trans (xs_at _ n)
  v8_at j := by
    have h : (iblk m c 5 t : S256x1x1.Idx → EReal) = V m c main_v5 := by blk_ext! [iblk, idx t]
    exact (congrFun (h.trans (V_v5 m c)) _).trans (ls_at _ j)

theorem rs_eq (c : Dev nD) (t : Fin cfg0.N) (k : Fin 64) : (iblk m c 3 t : S64x1x1.Idx → EReal) (ix3 k 0 0) = m ((c : Thread nD τ).loc main_arg3) (ix1 k) := by
  have h : (iblk m c 3 t : S64x1x1.Idx → EReal) = V m c main_v4 := by blk_ext! [iblk, idx t]
  exact (congrFun (h.trans (V_v4 m c)) _).trans (rs_at _ k)

theorem r_eq (c : Dev nD) (t : Fin cfg0.N) : (iblk m c 2 t : S64x256x256.Idx → EReal) = m ((c : Thread nD τ).loc main_arg2) := by
  have h : (iblk m c 2 t : S64x256x256.Idx → EReal) = V m c main_arg2 := by blk_ext! [iblk, idx t]
  exact h.trans (V_main_arg2 m c)

/-! ## A load of a whole array is the array -/

section loads
variable (x0 : Vec Ideal S256x8192x64 .fp8e4m3) (x1 : Vec Ideal S1x8192x1 .f32) (x2 : Vec Ideal S64x256x256 .fp8e4m3) (x3 : Vec Ideal S64x1x1 .f32)
  (x4 : Vec Ideal S256x64x64 .fp8e4m3) (x5 : Vec Ideal S256x1x1 .f32)

theorem zero3 : (![0, 0, 0] : Fin 3 → Nat) = fun _ => 0 := funext fun a => by fin_cases a <;> rfl

theorem ld0 : View.ld x0 r0_0 = x0 := View.ld_unit_zero zero3 _ x0
theorem ld1 : View.ld x1 r0_2 = x1 := View.ld_unit_zero zero3 _ x1
theorem ld2 : View.ld x2 r0_4 = x2 := View.ld_unit_zero zero3 _ x2
theorem ld3 : View.ld x3 r0_5 = x3 := View.ld_unit_zero zero3 _ x3
theorem ld4 : View.ld x4 r0_1 = x4 := View.ld_unit_zero zero3 _ x4
theorem ld5 : View.ld x5 r0_3 = x5 := View.ld_unit_zero zero3 _ x5

theorem pay8_eq : k0_pay8 x0 x1 x2 x3 x4 x5 = k0_pay3 x0 x4 x1 x5 := by unfold k0_pay8; rw [ld0, ld1, ld4, ld5]
theorem pay9_eq : k0_pay9 x0 x1 x2 x3 x4 x5 = k0_pay5 := by unfold k0_pay9; rfl
theorem pay10_eq : k0_pay10 x0 x1 x2 x3 x4 x5 = k0_pay6 x0 x4 x1 x5 := by unfold k0_pay10; rw [ld0, ld1, ld4, ld5]
theorem pay11_eq : k0_pay11 x0 x1 x2 x3 x4 x5 = k0_pay7 x0 x4 x1 x5 := by unfold k0_pay11; rw [ld0, ld1, ld4, ld5]

end loads

/-! ## The arrays the kernel leaves -/

theorem ix3_of {A B C : Nat} (j : (⟨3, ![A, B, C]⟩ : Shape).Idx) : ∃ (a : Fin A) (b : Fin B) (d : Fin C), j = ix3 a b d :=
  ⟨j 0, j 1, j 2, eq_ix3 j⟩

theorem y_point (c : Dev nD) (t : Fin cfg0.N) (k : Fin 64) (n : Fin 8192) (i : Fin 256) :
    k0_pay2 (k0_pay8 (iblk m c 0 t) (iblk m c 1 t) (iblk m c 2 t) (iblk m c 3 t) (iblk m c 4 t) (iblk m c 5 t))
      (k0_pay9 (iblk m c 0 t) (iblk m c 1 t) (iblk m c 2 t) (iblk m c 3 t) (iblk m c 4 t) (iblk m c 5 t))
      (k0_pay10 (iblk m c 0 t) (iblk m c 1 t) (iblk m c 2 t) (iblk m c 3 t) (iblk m c 4 t) (iblk m c 5 t))
      (k0_pay11 (iblk m c 0 t) (iblk m c 1 t) (iblk m c 2 t) (iblk m c 3 t) (iblk m c 4 t) (iblk m c 5 t))
      (iblk m c 2 t) (iblk m c 3 t) (ix3 k n i)
    = Spec.y (m ((c : Thread nD τ).loc main_arg0)) (m ((c : Thread nD τ).loc main_arg1)) (m ((c : Thread nD τ).loc main_arg4)) (m ((c : Thread nD τ).loc main_arg5))
      (m ((c : Thread nD τ).loc main_arg2)) (m ((c : Thread nD τ).loc main_arg3)) n k i := by
  rw [pay8_eq, pay9_eq, pay10_eq, pay11_eq]
  refine (y_eq (holds m c t) (iblk m c 2 t) (m ((c : Thread nD τ).loc main_arg3)) (iblk m c 3 t) (fun k => rs_eq m c t k) k n i).trans ?_
  rw [r_eq m c t]

theorem code_point (c : Dev nD) (t : Fin cfg0.N) (j : Fin 256) (n : Fin 8192) (k : Fin 64) :
    k0_pay1 (k0_pay8 (iblk m c 0 t) (iblk m c 1 t) (iblk m c 2 t) (iblk m c 3 t) (iblk m c 4 t) (iblk m c 5 t))
      (k0_pay9 (iblk m c 0 t) (iblk m c 1 t) (iblk m c 2 t) (iblk m c 3 t) (iblk m c 4 t) (iblk m c 5 t))
      (k0_pay11 (iblk m c 0 t) (iblk m c 1 t) (iblk m c 2 t) (iblk m c 3 t) (iblk m c 4 t) (iblk m c 5 t)) (ix3 j n k)
    = Spec.code (m ((c : Thread nD τ).loc main_arg0)) (m ((c : Thread nD τ).loc main_arg1)) (m ((c : Thread nD τ).loc main_arg4)) (m ((c : Thread nD τ).loc main_arg5)) n j k := by
  rw [pay8_eq, pay9_eq, pay11_eq]
  exact code_eq (holds m c t) j n k

theorem scale_point (c : Dev nD) (t : Fin cfg0.N) (n : Fin 8192) :
    k0_pay10 (iblk m c 0 t) (iblk m c 1 t) (iblk m c 2 t) (iblk m c 3 t) (iblk m c 4 t) (iblk m c 5 t) (ix3 0 n 0)
    = Spec.scale (m ((c : Thread nD τ).loc main_arg0)) (m ((c : Thread nD τ).loc main_arg1)) (m ((c : Thread nD τ).loc main_arg4)) (m ((c : Thread nD τ).loc main_arg5)) n := by
  rw [pay10_eq]
  exact scale_eq (holds m c t) n

theorem y_final (c : Dev nD) : (dats m 0 c).arrAt 6 (cfgs 0).N = fun i : S64x8192x256.Idx =>
    Spec.y (m ((c : Thread nD τ).loc main_arg0)) (m ((c : Thread nD τ).loc main_arg1)) (m ((c : Thread nD τ).loc main_arg4)) (m ((c : Thread nD τ).loc main_arg5))
      (m ((c : Thread nD τ).loc main_arg2)) (m ((c : Thread nD τ).loc main_arg3)) (i 1) (i 0) (i 2) := by
  refine (dats m 0 c).arrAt_eq_of_after_last 6 t0_0 (by decide +kernel) _ fun j => ?_
  blk_simp
  rw [after0_6]
  frame_out
  obtain ⟨k, n, i, rfl⟩ := ix3_of j
  exact y_point m c t0_0 k n i

theorem codes_final (c : Dev nD) : (dats m 0 c).arrAt 7 (cfgs 0).N = fun i : S256x8192x64.Idx =>
    Spec.code (m ((c : Thread nD τ).loc main_arg0)) (m ((c : Thread nD τ).loc main_arg1)) (m ((c : Thread nD τ).loc main_arg4)) (m ((c : Thread nD τ).loc main_arg5))
      (i 1) (i 0) (i 2) := by
  refine (dats m 0 c).arrAt_eq_of_after_last 7 t0_0 (by decide +kernel) _ fun j => ?_
  blk_simp
  rw [after0_7]
  frame_out
  obtain ⟨j, n, k, rfl⟩ := ix3_of j
  exact code_point m c t0_0 j n k

theorem scales_final (c : Dev nD) : (dats m 0 c).arrAt 8 (cfgs 0).N = fun i : S1x8192x1.Idx =>
    Spec.scale (m ((c : Thread nD τ).loc main_arg0)) (m ((c : Thread nD τ).loc main_arg1)) (m ((c : Thread nD τ).loc main_arg4)) (m ((c : Thread nD τ).loc main_arg5))
      (i 1) := by
  refine (dats m 0 c).arrAt_eq_of_after_last 8 t0_0 (by decide +kernel) _ fun j => ?_
  blk_simp
  rw [after0_8]
  frame_out
  obtain ⟨z, n, u, rfl⟩ := ix3_of j
  obtain rfl : z = 0 := Fin.ext (by omega)
  obtain rfl : u = 0 := Fin.ext (by omega)
  exact scale_point m c t0_0 n

/-! ## The results -/

/-- The memory the host's last operations start from: the kernel's arrays as it leaves them, the rest as it found it. -/
def exit (c : Dev nD) : Valuation τ sig (Elt Ideal) :=
  Pipeline.withArrays spec0 c (V0 m c) fun w => (dats m 0 c).arrAt w cfg0.N

theorem exit_arr (c : Dev nD) (w : Fin cfg0.W) : exit m c (Proc.devRef .tc (Pipeline.arrRef spec0 w)) = (dats m 0 c).arrAt w cfg0.N := by
  unfold exit; exact Pipeline.withArrays_arr spec0 launch0.win.arr_inj c _ _ w

theorem tail_eq (c : Dev nD) (b : Ref sig .tc) : Pipeline.afterTail₀ cfgs (dats m) 0 (V0 m) [hostOps1] c b = StableHlo.after hostOps1 (exit m c) (Proc.devRef .tc b) := by
  unfold Pipeline.afterTail₀ exit
  rfl

theorem result1 (c : Dev nD) : (Pipeline.afterTail₀ cfgs (dats m) 0 (V0 m) [hostOps1] c main_v11 : S2x4096x16384.Idx → EReal)
    = Spec.out1 (m ((c : Thread nD τ).loc main_arg0)) (m ((c : Thread nD τ).loc main_arg1)) (m ((c : Thread nD τ).loc main_arg4)) (m ((c : Thread nD τ).loc main_arg5))
      (m ((c : Thread nD τ).loc main_arg2)) (m ((c : Thread nD τ).loc main_arg3)) := by
  have e : exit m c (Proc.devRef .tc main_v6_0) = _ := (exit_arr m c 6).trans (y_final m c)
  rw [tail_eq]
  generalize exit m c = B at e ⊢
  have h : (StableHlo.after hostOps1 B (Proc.devRef .tc main_v11) : S2x4096x16384.Idx → EReal) = shapeCast S2x4096x16384 (transpose S2x4096x64x256 [1, 2, 0, 3] (shapeCast S64x2x4096x256 (show FVec Ideal S64x8192x256 .bf16 from B (Proc.devRef .tc main_v6_0)) shapeCasts_S64x8192x256_S64x2x4096x256) transposes_S64x2x4096x256_S2x4096x64x256_1_2_0_3) shapeCasts_S2x4096x64x256_S2x4096x16384 := by
    after_results
    rfl
  refine h.trans ?_
  funext p
  obtain ⟨b, s, d, rfl⟩ := ix3_of p
  exact (ys_at _ b s d).trans (congrFun e _)

theorem result2 (c : Dev nD) : (Pipeline.afterTail₀ cfgs (dats m) 0 (V0 m) [hostOps1] c main_v8 : S2x4096x256x64.Idx → EReal)
    = Spec.out2 (m ((c : Thread nD τ).loc main_arg0)) (m ((c : Thread nD τ).loc main_arg1)) (m ((c : Thread nD τ).loc main_arg4)) (m ((c : Thread nD τ).loc main_arg5)) := by
  have e : exit m c (Proc.devRef .tc main_v6_1) = _ := (exit_arr m c 7).trans (codes_final m c)
  rw [tail_eq]
  generalize exit m c = B at e ⊢
  have h : (StableHlo.after hostOps1 B (Proc.devRef .tc main_v8) : S2x4096x256x64.Idx → EReal) = transpose S2x4096x256x64 [1, 2, 0, 3] (shapeCast S256x2x4096x64 (show FVec Ideal S256x8192x64 .fp8e4m3 from B (Proc.devRef .tc main_v6_1)) shapeCasts_S256x8192x64_S256x2x4096x64) transposes_S256x2x4096x64_S2x4096x256x64_1_2_0_3 := by
    after_results
    rfl
  refine h.trans ?_
  funext p
  obtain ⟨b, s, j, k, rfl⟩ : ∃ (b : Fin 2) (s : Fin 4096) (j : Fin 256) (k : Fin 64), p = ix4 b s j k := ⟨p 0, p 1, p 2, p 3, eq_ix4 p⟩
  exact (codes_at _ b s j k).trans (congrFun e _)

theorem result3 (c : Dev nD) : (Pipeline.afterTail₀ cfgs (dats m) 0 (V0 m) [hostOps1] c main_v12 : S2x4096.Idx → EReal)
    = Spec.out3 (m ((c : Thread nD τ).loc main_arg0)) (m ((c : Thread nD τ).loc main_arg1)) (m ((c : Thread nD τ).loc main_arg4)) (m ((c : Thread nD τ).loc main_arg5)) := by
  have e : exit m c (Proc.devRef .tc main_v6_2) = _ := (exit_arr m c 8).trans (scales_final m c)
  rw [tail_eq]
  generalize exit m c = B at e ⊢
  have h : (StableHlo.after hostOps1 B (Proc.devRef .tc main_v12) : S2x4096.Idx → EReal) = shapeCast S2x4096 (show FVec Ideal S1x8192x1 .f32 from B (Proc.devRef .tc main_v6_2)) shapeCasts_S1x8192x1_S2x4096 := by
    after_results
    rfl
  refine h.trans ?_
  funext p
  obtain ⟨b, s, rfl⟩ : ∃ (b : Fin 2) (s : Fin 4096), p = ix2 b s := ⟨p 0, p 1, eq_ix2 p⟩
  exact (scales_at _ b s).trans (congrFun e _)

/-- The reference stops with its three results at the stated arrays and its arguments as launched. -/
theorem run : θ_run defs (onTc (τ := τ) (main (F := Ideal))) ⟨m, fun _ => 0, ρ⟩ (fun r => ∀ c : Dev nD,
      r.2.mem ((c.tc : Thread nD τ).loc main_v11) = Spec.out1 (m ((c : Thread nD τ).loc main_arg0)) (m ((c : Thread nD τ).loc main_arg1)) (m ((c : Thread nD τ).loc main_arg4)) (m ((c : Thread nD τ).loc main_arg5))
        (m ((c : Thread nD τ).loc main_arg2)) (m ((c : Thread nD τ).loc main_arg3))
      ∧ r.2.mem ((c.tc : Thread nD τ).loc main_v8) = Spec.out2 (m ((c : Thread nD τ).loc main_arg0)) (m ((c : Thread nD τ).loc main_arg1)) (m ((c : Thread nD τ).loc main_arg4)) (m ((c : Thread nD τ).loc main_arg5))
      ∧ r.2.mem ((c.tc : Thread nD τ).loc main_v12) = Spec.out3 (m ((c : Thread nD τ).loc main_arg0)) (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  refine ⟨?_, ?_, ?_, h.2 c⟩
  · exact ((h.1 c).2 main_v11 (by decide)).trans (result1 m c)
  · exact ((h.1 c).2 main_v8 (by decide)).trans (result2 m c)
  · exact ((h.1 c).2 main_v12 (by decide)).trans (result3 m c)

end Cert.ReferenceIdeal.Value

end
-- ==== Proof.lean ====
module

public import proofs.«01_k».proof.Defs
public import proofs.«01_k».proof.Proof.Gen.Kernel
public import proofs.«01_k».proof.Proof.KernelRun
public import proofs.«01_k».proof.Proof.Gen.KernelIdeal
public import proofs.«01_k».proof.Proof.IdealRun
public import proofs.«01_k».proof.Proof.IdealStage2Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- At exact arithmetic the kernel and the reference, from equal arguments, return the same three arrays. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Spec.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Spec.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run _ _ _).mono (fun r h c => ?_) (Cert.KernelIdeal.Run.run m g)
    exact ⟨(h.1 c _ (Cert.KernelIdeal.Run.mem_uc Cert.KernelIdeal.main_v26 (by decide))).trans (Cert.KernelIdeal.Stage2.result1 m g c),
      (h.1 c _ (Cert.KernelIdeal.Run.mem_uc Cert.KernelIdeal.main_v22 (by decide))).trans (Cert.KernelIdeal.Stage2.result2 m g c),
      (h.1 c _ (Cert.KernelIdeal.Run.mem_uc Cert.KernelIdeal.main_v27 (by decide))).trans (Cert.KernelIdeal.Stage2.result3 m g c),
      (h.1 c _ (Cert.KernelIdeal.Run.mem_uc Cert.KernelIdeal.main_arg0 (by decide))).trans (Cert.KernelIdeal.Run.W7_main_arg0 m g c),
      (h.1 c _ (Cert.KernelIdeal.Run.mem_uc Cert.KernelIdeal.main_arg1 (by decide))).trans (Cert.KernelIdeal.Run.W7_main_arg1 m g c),
      (h.1 c _ (Cert.KernelIdeal.Run.mem_uc Cert.KernelIdeal.main_arg2 (by decide))).trans (Cert.KernelIdeal.Run.W7_main_arg2 m g c),
      (h.1 c _ (Cert.KernelIdeal.Run.mem_uc Cert.KernelIdeal.main_arg3 (by decide))).trans (Cert.KernelIdeal.Run.W7_main_arg3 m g c),
      (h.1 c _ (Cert.KernelIdeal.Run.mem_uc Cert.KernelIdeal.main_arg4 (by decide))).trans (Cert.KernelIdeal.Run.W7_main_arg4 m g c),
      (h.1 c _ (Cert.KernelIdeal.Run.mem_uc Cert.KernelIdeal.main_arg5 (by decide))).trans (Cert.KernelIdeal.Run.W7_main_arg5 m g c)⟩
  · refine (θ_run _ _ _).mono (fun r h c => ?_) (Cert.ReferenceIdeal.Value.run m' g')
    obtain ⟨h1, h2, h3, hargs⟩ := h c
    obtain ⟨a0, a1, a2, a3, a4, a5⟩ := hagree c
    rw [a0, a1, a4, a5] at h1 h2 h3
    rw [a2, a3] at h1
    exact ⟨h1, h2, h3, hargs⟩

theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ,
    fun m ρ _ => Cert.ReferenceIdeal.Gen.frame m ρ, trivial, algebraic⟩

end Cert.Proof

end
